-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S5376x1024 : Shape := ⟨2, ![5376, 1024]⟩
abbrev S4x128x1024 : Shape := ⟨3, ![4, 128, 1024]⟩
abbrev S42 : Shape := ⟨1, ![42]⟩
abbrev S43 : Shape := ⟨1, ![43]⟩
abbrev S4 : Shape := ⟨1, ![4]⟩
abbrev S_ : Shape := ⟨0, ![]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .local _ .vmem, ⟨0, _⟩ => ⟨S5376x1024, .f32⟩
  | .local _ .vmem, ⟨1, _⟩ => ⟨S4x128x1024, .f32⟩
  | _, _ => ⟨S1x16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 264 → Bool
  | ⟨i, _⟩ => dmaSemScopedAt i

abbrev sig : RefSig :=
  (ofTc nBuf bufTy 1 264 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_18 : BitVec 32 := 4#32
  let v29 : BitVec 32 := Scalar.muli v9 c4_i32_18
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v33 : BitVec 32 := Scalar.muli v8 c1_i32_20
  let v34 : BitVec 32 := Scalar.addi v32 v33
  v34.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v37 : BitVec 32 := Scalar.muli v10 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_30 : BitVec 32 := 1#32
  let v45 : BitVec 32 := Scalar.muli v11 c1_i32_30
  let v46 : BitVec 32 := Scalar.addi v44 v45
  v46.toNat
def k0_off1 (d0 : Dev nD) (c0_i32_31 : BitVec 32) : Fin 3 → Nat :=
  let c0_i32_33 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v12 : BitVec 32 := Scalar.muli v5 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v14 : BitVec 32 := Scalar.muli v13 c4096_i32
  let v47 : BitVec 32 := Scalar.addi v14 c0_i32_31
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_32 v2
  let c1024_i32 : BitVec 32 := 1024#32
  let v49 : BitVec 32 := Scalar.muli v48 c1024_i32
  ![0, v47.toNat, v49.toNat]
def k0_dev4 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v50 : BitVec 32 := Scalar.muli v9 c4_i32_36
  let v51 : BitVec 32 := Scalar.addi c0_i32_37 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v52 : BitVec 32 := Scalar.muli v5 c2_i32_38
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v54 : BitVec 32 := Scalar.muli v8 c1_i32_39
  let v55 : BitVec 32 := Scalar.addi v53 v54
  v55.toNat
def k0_dev5 (d0 : Dev nD) : Nat :=
  let c0_i32_48 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_47 : BitVec 32 := 4#32
  let v66 : BitVec 32 := Scalar.muli v9 c4_i32_47
  let v67 : BitVec 32 := Scalar.addi c0_i32_48 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v68 : BitVec 32 := Scalar.muli v5 c2_i32_49
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v70 : BitVec 32 := Scalar.muli v8 c1_i32_50
  let v71 : BitVec 32 := Scalar.addi v69 v70
  v71.toNat
def k0_dev6 (d0 : Dev nD) : Nat :=
  let c0_i32_59 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_58 : BitVec 32 := 4#32
  let v82 : BitVec 32 := Scalar.muli v9 c4_i32_58
  let v83 : BitVec 32 := Scalar.addi c0_i32_59 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v84 : BitVec 32 := Scalar.muli v5 c2_i32_60
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v86 : BitVec 32 := Scalar.muli v8 c1_i32_61
  let v87 : BitVec 32 := Scalar.addi v85 v86
  v87.toNat
def k0_dev7 (d0 : Dev nD) : Nat :=
  let c0_i32_70 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_69 : BitVec 32 := 4#32
  let v98 : BitVec 32 := Scalar.muli v9 c4_i32_69
  let v99 : BitVec 32 := Scalar.addi c0_i32_70 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v100 : BitVec 32 := Scalar.muli v5 c2_i32_71
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v102 : BitVec 32 := Scalar.muli v8 c1_i32_72
  let v103 : BitVec 32 := Scalar.addi v101 v102
  v103.toNat
def k0_dev8 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v114 : BitVec 32 := Scalar.muli v9 c4_i32_80
  let v115 : BitVec 32 := Scalar.addi c0_i32_81 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v116 : BitVec 32 := Scalar.muli v5 c2_i32_82
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v118 : BitVec 32 := Scalar.muli v8 c1_i32_83
  let v119 : BitVec 32 := Scalar.addi v117 v118
  v119.toNat
def k0_dev9 (d0 : Dev nD) : Nat :=
  let c0_i32_91 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_90 : BitVec 32 := 4#32
  let v130 : BitVec 32 := Scalar.muli v9 c4_i32_90
  let v131 : BitVec 32 := Scalar.addi c0_i32_91 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v132 : BitVec 32 := Scalar.muli v5 c2_i32_92
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v134 : BitVec 32 := Scalar.muli v8 c1_i32_93
  let v135 : BitVec 32 := Scalar.addi v133 v134
  v135.toNat
def k0_dev10 (d0 : Dev nD) : Nat :=
  let c0_i32_101 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_100 : BitVec 32 := 4#32
  let v146 : BitVec 32 := Scalar.muli v9 c4_i32_100
  let v147 : BitVec 32 := Scalar.addi c0_i32_101 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v148 : BitVec 32 := Scalar.muli v5 c2_i32_102
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v150 : BitVec 32 := Scalar.muli v8 c1_i32_103
  let v151 : BitVec 32 := Scalar.addi v149 v150
  v151.toNat
def k0_dev11 (d0 : Dev nD) : Nat :=
  let c0_i32_111 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_110 : BitVec 32 := 4#32
  let v162 : BitVec 32 := Scalar.muli v9 c4_i32_110
  let v163 : BitVec 32 := Scalar.addi c0_i32_111 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v164 : BitVec 32 := Scalar.muli v5 c2_i32_112
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v166 : BitVec 32 := Scalar.muli v8 c1_i32_113
  let v167 : BitVec 32 := Scalar.addi v165 v166
  v167.toNat
def k0_dev12 (d0 : Dev nD) : Nat :=
  let c0_i32_122 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_121 : BitVec 32 := 4#32
  let v178 : BitVec 32 := Scalar.muli v9 c4_i32_121
  let v179 : BitVec 32 := Scalar.addi c0_i32_122 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v180 : BitVec 32 := Scalar.muli v5 c2_i32_123
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v182 : BitVec 32 := Scalar.muli v8 c1_i32_124
  let v183 : BitVec 32 := Scalar.addi v181 v182
  v183.toNat
def k0_dev13 (d0 : Dev nD) : Nat :=
  let c0_i32_132 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_131 : BitVec 32 := 4#32
  let v194 : BitVec 32 := Scalar.muli v9 c4_i32_131
  let v195 : BitVec 32 := Scalar.addi c0_i32_132 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v196 : BitVec 32 := Scalar.muli v5 c2_i32_133
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v198 : BitVec 32 := Scalar.muli v8 c1_i32_134
  let v199 : BitVec 32 := Scalar.addi v197 v198
  v199.toNat
def k0_dev14 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v210 : BitVec 32 := Scalar.muli v9 c4_i32_141
  let v211 : BitVec 32 := Scalar.addi c0_i32_142 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v212 : BitVec 32 := Scalar.muli v5 c2_i32_143
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v214 : BitVec 32 := Scalar.muli v8 c1_i32_144
  let v215 : BitVec 32 := Scalar.addi v213 v214
  v215.toNat
def k0_dev15 (d0 : Dev nD) : Nat :=
  let c0_i32_152 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_151 : BitVec 32 := 4#32
  let v226 : BitVec 32 := Scalar.muli v9 c4_i32_151
  let v227 : BitVec 32 := Scalar.addi c0_i32_152 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v228 : BitVec 32 := Scalar.muli v5 c2_i32_153
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v230 : BitVec 32 := Scalar.muli v8 c1_i32_154
  let v231 : BitVec 32 := Scalar.addi v229 v230
  v231.toNat
def k0_dev16 (d0 : Dev nD) : Nat :=
  let c0_i32_162 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_161 : BitVec 32 := 4#32
  let v242 : BitVec 32 := Scalar.muli v9 c4_i32_161
  let v243 : BitVec 32 := Scalar.addi c0_i32_162 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v244 : BitVec 32 := Scalar.muli v5 c2_i32_163
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v246 : BitVec 32 := Scalar.muli v8 c1_i32_164
  let v247 : BitVec 32 := Scalar.addi v245 v246
  v247.toNat
def k0_dev17 (d0 : Dev nD) : Nat :=
  let c0_i32_172 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_171 : BitVec 32 := 4#32
  let v258 : BitVec 32 := Scalar.muli v9 c4_i32_171
  let v259 : BitVec 32 := Scalar.addi c0_i32_172 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v260 : BitVec 32 := Scalar.muli v5 c2_i32_173
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v262 : BitVec 32 := Scalar.muli v8 c1_i32_174
  let v263 : BitVec 32 := Scalar.addi v261 v262
  v263.toNat
def k0_dev18 (d0 : Dev nD) : Nat :=
  let c0_i32_182 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_181 : BitVec 32 := 4#32
  let v274 : BitVec 32 := Scalar.muli v9 c4_i32_181
  let v275 : BitVec 32 := Scalar.addi c0_i32_182 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v276 : BitVec 32 := Scalar.muli v5 c2_i32_183
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v278 : BitVec 32 := Scalar.muli v8 c1_i32_184
  let v279 : BitVec 32 := Scalar.addi v277 v278
  v279.toNat
def k0_dev19 (d0 : Dev nD) : Nat :=
  let c0_i32_192 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_191 : BitVec 32 := 4#32
  let v290 : BitVec 32 := Scalar.muli v9 c4_i32_191
  let v291 : BitVec 32 := Scalar.addi c0_i32_192 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v292 : BitVec 32 := Scalar.muli v5 c2_i32_193
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v294 : BitVec 32 := Scalar.muli v8 c1_i32_194
  let v295 : BitVec 32 := Scalar.addi v293 v294
  v295.toNat
def k0_dev20 (d0 : Dev nD) : Nat :=
  let c0_i32_202 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_201 : BitVec 32 := 4#32
  let v306 : BitVec 32 := Scalar.muli v9 c4_i32_201
  let v307 : BitVec 32 := Scalar.addi c0_i32_202 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v308 : BitVec 32 := Scalar.muli v5 c2_i32_203
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v310 : BitVec 32 := Scalar.muli v8 c1_i32_204
  let v311 : BitVec 32 := Scalar.addi v309 v310
  v311.toNat
def k0_dev21 (d0 : Dev nD) : Nat :=
  let c0_i32_212 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_211 : BitVec 32 := 4#32
  let v322 : BitVec 32 := Scalar.muli v9 c4_i32_211
  let v323 : BitVec 32 := Scalar.addi c0_i32_212 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v324 : BitVec 32 := Scalar.muli v5 c2_i32_213
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_214 : BitVec 32 := 1#32
  let v326 : BitVec 32 := Scalar.muli v8 c1_i32_214
  let v327 : BitVec 32 := Scalar.addi v325 v326
  v327.toNat
def k0_dev22 (d0 : Dev nD) : Nat :=
  let c0_i32_222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_221 : BitVec 32 := 4#32
  let v338 : BitVec 32 := Scalar.muli v9 c4_i32_221
  let v339 : BitVec 32 := Scalar.addi c0_i32_222 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v340 : BitVec 32 := Scalar.muli v5 c2_i32_223
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v342 : BitVec 32 := Scalar.muli v8 c1_i32_224
  let v343 : BitVec 32 := Scalar.addi v341 v342
  v343.toNat
def k0_dev23 (d0 : Dev nD) : Nat :=
  let c0_i32_232 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_231 : BitVec 32 := 4#32
  let v354 : BitVec 32 := Scalar.muli v9 c4_i32_231
  let v355 : BitVec 32 := Scalar.addi c0_i32_232 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v356 : BitVec 32 := Scalar.muli v5 c2_i32_233
  let v357 : BitVec 32 := Scalar.addi v355 v356
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_234 : BitVec 32 := 1#32
  let v358 : BitVec 32 := Scalar.muli v8 c1_i32_234
  let v359 : BitVec 32 := Scalar.addi v357 v358
  v359.toNat
def k0_dev24 (d0 : Dev nD) : Nat :=
  let c0_i32_242 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_241 : BitVec 32 := 4#32
  let v370 : BitVec 32 := Scalar.muli v9 c4_i32_241
  let v371 : BitVec 32 := Scalar.addi c0_i32_242 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v372 : BitVec 32 := Scalar.muli v5 c2_i32_243
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v374 : BitVec 32 := Scalar.muli v8 c1_i32_244
  let v375 : BitVec 32 := Scalar.addi v373 v374
  v375.toNat
def k0_dev25 (d0 : Dev nD) : Nat :=
  let c0_i32_252 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_251 : BitVec 32 := 4#32
  let v386 : BitVec 32 := Scalar.muli v9 c4_i32_251
  let v387 : BitVec 32 := Scalar.addi c0_i32_252 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v388 : BitVec 32 := Scalar.muli v5 c2_i32_253
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v390 : BitVec 32 := Scalar.muli v8 c1_i32_254
  let v391 : BitVec 32 := Scalar.addi v389 v390
  v391.toNat
def k0_dev26 (d0 : Dev nD) : Nat :=
  let c0_i32_262 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_261 : BitVec 32 := 4#32
  let v402 : BitVec 32 := Scalar.muli v9 c4_i32_261
  let v403 : BitVec 32 := Scalar.addi c0_i32_262 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v404 : BitVec 32 := Scalar.muli v5 c2_i32_263
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v406 : BitVec 32 := Scalar.muli v8 c1_i32_264
  let v407 : BitVec 32 := Scalar.addi v405 v406
  v407.toNat
def k0_dev27 (d0 : Dev nD) : Nat :=
  let c0_i32_272 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_271 : BitVec 32 := 4#32
  let v418 : BitVec 32 := Scalar.muli v9 c4_i32_271
  let v419 : BitVec 32 := Scalar.addi c0_i32_272 v418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v420 : BitVec 32 := Scalar.muli v5 c2_i32_273
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v422 : BitVec 32 := Scalar.muli v8 c1_i32_274
  let v423 : BitVec 32 := Scalar.addi v421 v422
  v423.toNat
def k0_dev28 (d0 : Dev nD) : Nat :=
  let c0_i32_282 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_281 : BitVec 32 := 4#32
  let v434 : BitVec 32 := Scalar.muli v9 c4_i32_281
  let v435 : BitVec 32 := Scalar.addi c0_i32_282 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v436 : BitVec 32 := Scalar.muli v5 c2_i32_283
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v438 : BitVec 32 := Scalar.muli v8 c1_i32_284
  let v439 : BitVec 32 := Scalar.addi v437 v438
  v439.toNat
def k0_dev29 (d0 : Dev nD) : Nat :=
  let c0_i32_292 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_291 : BitVec 32 := 4#32
  let v450 : BitVec 32 := Scalar.muli v9 c4_i32_291
  let v451 : BitVec 32 := Scalar.addi c0_i32_292 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v452 : BitVec 32 := Scalar.muli v5 c2_i32_293
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v454 : BitVec 32 := Scalar.muli v8 c1_i32_294
  let v455 : BitVec 32 := Scalar.addi v453 v454
  v455.toNat
def k0_dev30 (d0 : Dev nD) : Nat :=
  let c0_i32_302 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_301 : BitVec 32 := 4#32
  let v466 : BitVec 32 := Scalar.muli v9 c4_i32_301
  let v467 : BitVec 32 := Scalar.addi c0_i32_302 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v468 : BitVec 32 := Scalar.muli v5 c2_i32_303
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_304 : BitVec 32 := 1#32
  let v470 : BitVec 32 := Scalar.muli v8 c1_i32_304
  let v471 : BitVec 32 := Scalar.addi v469 v470
  v471.toNat
def k0_dev31 (d0 : Dev nD) : Nat :=
  let c0_i32_312 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_311 : BitVec 32 := 4#32
  let v482 : BitVec 32 := Scalar.muli v9 c4_i32_311
  let v483 : BitVec 32 := Scalar.addi c0_i32_312 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v484 : BitVec 32 := Scalar.muli v5 c2_i32_313
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v486 : BitVec 32 := Scalar.muli v8 c1_i32_314
  let v487 : BitVec 32 := Scalar.addi v485 v486
  v487.toNat
def k0_dev32 (d0 : Dev nD) : Nat :=
  let c0_i32_322 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_321 : BitVec 32 := 4#32
  let v498 : BitVec 32 := Scalar.muli v9 c4_i32_321
  let v499 : BitVec 32 := Scalar.addi c0_i32_322 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v500 : BitVec 32 := Scalar.muli v5 c2_i32_323
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v502 : BitVec 32 := Scalar.muli v8 c1_i32_324
  let v503 : BitVec 32 := Scalar.addi v501 v502
  v503.toNat
def k0_dev33 (d0 : Dev nD) : Nat :=
  let c0_i32_332 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_331 : BitVec 32 := 4#32
  let v514 : BitVec 32 := Scalar.muli v9 c4_i32_331
  let v515 : BitVec 32 := Scalar.addi c0_i32_332 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_333 : BitVec 32 := 2#32
  let v516 : BitVec 32 := Scalar.muli v5 c2_i32_333
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_334 : BitVec 32 := 1#32
  let v518 : BitVec 32 := Scalar.muli v8 c1_i32_334
  let v519 : BitVec 32 := Scalar.addi v517 v518
  v519.toNat
def k0_dev34 (d0 : Dev nD) : Nat :=
  let c0_i32_342 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_341 : BitVec 32 := 4#32
  let v530 : BitVec 32 := Scalar.muli v9 c4_i32_341
  let v531 : BitVec 32 := Scalar.addi c0_i32_342 v530
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v532 : BitVec 32 := Scalar.muli v5 c2_i32_343
  let v533 : BitVec 32 := Scalar.addi v531 v532
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_344 : BitVec 32 := 1#32
  let v534 : BitVec 32 := Scalar.muli v8 c1_i32_344
  let v535 : BitVec 32 := Scalar.addi v533 v534
  v535.toNat
def k0_dev35 (d0 : Dev nD) : Nat :=
  let c0_i32_352 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_351 : BitVec 32 := 4#32
  let v546 : BitVec 32 := Scalar.muli v9 c4_i32_351
  let v547 : BitVec 32 := Scalar.addi c0_i32_352 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v548 : BitVec 32 := Scalar.muli v5 c2_i32_353
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v550 : BitVec 32 := Scalar.muli v8 c1_i32_354
  let v551 : BitVec 32 := Scalar.addi v549 v550
  v551.toNat
def k0_off2 (d0 : Dev nD) (c256_i32_357 : BitVec 32) : Fin 3 → Nat :=
  let c0_i32_360 : BitVec 32 := 0#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_14 : BitVec 32 := 2#32
  let v24 : BitVec 32 := Scalar.muli v23 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4096_i32_16 : BitVec 32 := 4096#32
  let v27 : BitVec 32 := Scalar.muli v26 c4096_i32_16
  let v559 : BitVec 32 := Scalar.addi v27 c256_i32_357
  let c1_i32_358 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v560 : BitVec 32 := Scalar.subi c1_i32_358 v2
  let c1024_i32_359 : BitVec 32 := 1024#32
  let v561 : BitVec 32 := Scalar.muli v560 c1024_i32_359
  ![0, v559.toNat, v561.toNat]
def k0_dev36 (d0 : Dev nD) : Nat :=
  let c0_i32_363 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_362 : BitVec 32 := 4#32
  let v562 : BitVec 32 := Scalar.muli v9 c4_i32_362
  let v563 : BitVec 32 := Scalar.addi c0_i32_363 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v564 : BitVec 32 := Scalar.muli v5 c2_i32_364
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v566 : BitVec 32 := Scalar.muli v8 c1_i32_365
  let v567 : BitVec 32 := Scalar.addi v565 v566
  v567.toNat
def k0_dev37 (d0 : Dev nD) : Nat :=
  let c0_i32_374 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_373 : BitVec 32 := 4#32
  let v578 : BitVec 32 := Scalar.muli v9 c4_i32_373
  let v579 : BitVec 32 := Scalar.addi c0_i32_374 v578
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v580 : BitVec 32 := Scalar.muli v5 c2_i32_375
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v582 : BitVec 32 := Scalar.muli v8 c1_i32_376
  let v583 : BitVec 32 := Scalar.addi v581 v582
  v583.toNat
def k0_dev38 (d0 : Dev nD) : Nat :=
  let c0_i32_384 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_383 : BitVec 32 := 4#32
  let v594 : BitVec 32 := Scalar.muli v9 c4_i32_383
  let v595 : BitVec 32 := Scalar.addi c0_i32_384 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v596 : BitVec 32 := Scalar.muli v5 c2_i32_385
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_386 : BitVec 32 := 1#32
  let v598 : BitVec 32 := Scalar.muli v8 c1_i32_386
  let v599 : BitVec 32 := Scalar.addi v597 v598
  v599.toNat
def k0_dev39 (d0 : Dev nD) : Nat :=
  let c0_i32_394 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_393 : BitVec 32 := 4#32
  let v610 : BitVec 32 := Scalar.muli v9 c4_i32_393
  let v611 : BitVec 32 := Scalar.addi c0_i32_394 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_395 : BitVec 32 := 2#32
  let v612 : BitVec 32 := Scalar.muli v5 c2_i32_395
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_396 : BitVec 32 := 1#32
  let v614 : BitVec 32 := Scalar.muli v8 c1_i32_396
  let v615 : BitVec 32 := Scalar.addi v613 v614
  v615.toNat
def k0_dev40 (d0 : Dev nD) : Nat :=
  let c0_i32_404 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_403 : BitVec 32 := 4#32
  let v626 : BitVec 32 := Scalar.muli v9 c4_i32_403
  let v627 : BitVec 32 := Scalar.addi c0_i32_404 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_405 : BitVec 32 := 2#32
  let v628 : BitVec 32 := Scalar.muli v5 c2_i32_405
  let v629 : BitVec 32 := Scalar.addi v627 v628
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v630 : BitVec 32 := Scalar.muli v8 c1_i32_406
  let v631 : BitVec 32 := Scalar.addi v629 v630
  v631.toNat
def k0_dev41 (d0 : Dev nD) : Nat :=
  let c0_i32_414 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_413 : BitVec 32 := 4#32
  let v642 : BitVec 32 := Scalar.muli v9 c4_i32_413
  let v643 : BitVec 32 := Scalar.addi c0_i32_414 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v644 : BitVec 32 := Scalar.muli v5 c2_i32_415
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_416 : BitVec 32 := 1#32
  let v646 : BitVec 32 := Scalar.muli v8 c1_i32_416
  let v647 : BitVec 32 := Scalar.addi v645 v646
  v647.toNat
def k0_dev42 (d0 : Dev nD) : Nat :=
  let c0_i32_424 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_423 : BitVec 32 := 4#32
  let v658 : BitVec 32 := Scalar.muli v9 c4_i32_423
  let v659 : BitVec 32 := Scalar.addi c0_i32_424 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v660 : BitVec 32 := Scalar.muli v5 c2_i32_425
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_426 : BitVec 32 := 1#32
  let v662 : BitVec 32 := Scalar.muli v8 c1_i32_426
  let v663 : BitVec 32 := Scalar.addi v661 v662
  v663.toNat
def k0_dev43 (d0 : Dev nD) : Nat :=
  let c0_i32_434 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_433 : BitVec 32 := 4#32
  let v674 : BitVec 32 := Scalar.muli v9 c4_i32_433
  let v675 : BitVec 32 := Scalar.addi c0_i32_434 v674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_435 : BitVec 32 := 2#32
  let v676 : BitVec 32 := Scalar.muli v5 c2_i32_435
  let v677 : BitVec 32 := Scalar.addi v675 v676
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_436 : BitVec 32 := 1#32
  let v678 : BitVec 32 := Scalar.muli v8 c1_i32_436
  let v679 : BitVec 32 := Scalar.addi v677 v678
  v679.toNat
def k0_dev44 (d0 : Dev nD) : Nat :=
  let c0_i32_444 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_443 : BitVec 32 := 4#32
  let v690 : BitVec 32 := Scalar.muli v9 c4_i32_443
  let v691 : BitVec 32 := Scalar.addi c0_i32_444 v690
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v692 : BitVec 32 := Scalar.muli v5 c2_i32_445
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_446 : BitVec 32 := 1#32
  let v694 : BitVec 32 := Scalar.muli v8 c1_i32_446
  let v695 : BitVec 32 := Scalar.addi v693 v694
  v695.toNat
def k0_dev45 (d0 : Dev nD) : Nat :=
  let c0_i32_454 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_453 : BitVec 32 := 4#32
  let v706 : BitVec 32 := Scalar.muli v9 c4_i32_453
  let v707 : BitVec 32 := Scalar.addi c0_i32_454 v706
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_455 : BitVec 32 := 2#32
  let v708 : BitVec 32 := Scalar.muli v5 c2_i32_455
  let v709 : BitVec 32 := Scalar.addi v707 v708
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_456 : BitVec 32 := 1#32
  let v710 : BitVec 32 := Scalar.muli v8 c1_i32_456
  let v711 : BitVec 32 := Scalar.addi v709 v710
  v711.toNat
def k0_off3 (d0 : Dev nD) (c0_i32_458 : BitVec 32) : Fin 3 → Nat :=
  let c0_i32_460 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v12 : BitVec 32 := Scalar.muli v5 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v14 : BitVec 32 := Scalar.muli v13 c4096_i32
  let v719 : BitVec 32 := Scalar.addi v14 c0_i32_458
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_459 : BitVec 32 := 1024#32
  let v720 : BitVec 32 := Scalar.muli v2 c1024_i32_459
  ![0, v719.toNat, v720.toNat]
def k0_off4 (d0 : Dev nD) (c0_i32_458 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v12 : BitVec 32 := Scalar.muli v5 c2_i32_6
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c4096_i32 : BitVec 32 := 4096#32
  let v14 : BitVec 32 := Scalar.muli v13 c4096_i32
  let v719 : BitVec 32 := Scalar.addi v14 c0_i32_458
  let c0_i32_488 : BitVec 32 := 0#32
  ![v719.toNat, 0]
def k0_dev46 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v756 : BitVec 32 := Scalar.muli v2 c4_i32_494
  let v757 : BitVec 32 := Scalar.addi c0_i32_495 v756
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_496 : BitVec 32 := 2#32
  let v758 : BitVec 32 := Scalar.muli v10 c2_i32_496
  let v759 : BitVec 32 := Scalar.addi v757 v758
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_497 : BitVec 32 := 1#32
  let v760 : BitVec 32 := Scalar.muli v8 c1_i32_497
  let v761 : BitVec 32 := Scalar.addi v759 v760
  v761.toNat
def k0_dev47 (d0 : Dev nD) : Nat :=
  let c0_i32_505 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_504 : BitVec 32 := 4#32
  let v769 : BitVec 32 := Scalar.muli v2 c4_i32_504
  let v770 : BitVec 32 := Scalar.addi c0_i32_505 v769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_506 : BitVec 32 := 2#32
  let v771 : BitVec 32 := Scalar.muli v5 c2_i32_506
  let v772 : BitVec 32 := Scalar.addi v770 v771
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_507 : BitVec 32 := 1#32
  let v773 : BitVec 32 := Scalar.muli v11 c1_i32_507
  let v774 : BitVec 32 := Scalar.addi v772 v773
  v774.toNat
def k0_dev48 (d0 : Dev nD) : Nat :=
  let c0_i32_547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_546 : BitVec 32 := 4#32
  let v819 : BitVec 32 := Scalar.muli v2 c4_i32_546
  let v820 : BitVec 32 := Scalar.addi c0_i32_547 v819
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_548 : BitVec 32 := 2#32
  let v821 : BitVec 32 := Scalar.muli v10 c2_i32_548
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_549 : BitVec 32 := 1#32
  let v823 : BitVec 32 := Scalar.muli v8 c1_i32_549
  let v824 : BitVec 32 := Scalar.addi v822 v823
  v824.toNat
def k0_dev49 (d0 : Dev nD) : Nat :=
  let c0_i32_557 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_556 : BitVec 32 := 4#32
  let v832 : BitVec 32 := Scalar.muli v2 c4_i32_556
  let v833 : BitVec 32 := Scalar.addi c0_i32_557 v832
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_558 : BitVec 32 := 2#32
  let v834 : BitVec 32 := Scalar.muli v5 c2_i32_558
  let v835 : BitVec 32 := Scalar.addi v833 v834
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_559 : BitVec 32 := 1#32
  let v836 : BitVec 32 := Scalar.muli v11 c1_i32_559
  let v837 : BitVec 32 := Scalar.addi v835 v836
  v837.toNat
def k0_dev50 (d0 : Dev nD) : Nat :=
  let c0_i32_599 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_598 : BitVec 32 := 4#32
  let v882 : BitVec 32 := Scalar.muli v2 c4_i32_598
  let v883 : BitVec 32 := Scalar.addi c0_i32_599 v882
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_600 : BitVec 32 := 2#32
  let v884 : BitVec 32 := Scalar.muli v10 c2_i32_600
  let v885 : BitVec 32 := Scalar.addi v883 v884
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_601 : BitVec 32 := 1#32
  let v886 : BitVec 32 := Scalar.muli v8 c1_i32_601
  let v887 : BitVec 32 := Scalar.addi v885 v886
  v887.toNat
def k0_dev51 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v895 : BitVec 32 := Scalar.muli v2 c4_i32_608
  let v896 : BitVec 32 := Scalar.addi c0_i32_609 v895
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_610 : BitVec 32 := 2#32
  let v897 : BitVec 32 := Scalar.muli v5 c2_i32_610
  let v898 : BitVec 32 := Scalar.addi v896 v897
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_611 : BitVec 32 := 1#32
  let v899 : BitVec 32 := Scalar.muli v11 c1_i32_611
  let v900 : BitVec 32 := Scalar.addi v898 v899
  v900.toNat
def k0_off5 (d0 : Dev nD) (c0_i32_615 : BitVec 32) : Fin 2 → Nat :=
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_8 : BitVec 32 := 2#32
  let v16 : BitVec 32 := Scalar.muli v15 c2_i32_8
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c4096_i32_9 : BitVec 32 := 4096#32
  let v18 : BitVec 32 := Scalar.muli v17 c4096_i32_9
  let v908 : BitVec 32 := Scalar.addi v18 c0_i32_615
  let c0_i32_632 : BitVec 32 := 0#32
  ![v908.toNat, 0]
def k0_dev52 (d0 : Dev nD) : Nat :=
  let c0_i32_629 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_628 : BitVec 32 := 4#32
  let v920 : BitVec 32 := Scalar.muli v2 c4_i32_628
  let v921 : BitVec 32 := Scalar.addi c0_i32_629 v920
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_630 : BitVec 32 := 2#32
  let v922 : BitVec 32 := Scalar.muli v5 c2_i32_630
  let v923 : BitVec 32 := Scalar.addi v921 v922
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_631 : BitVec 32 := 1#32
  let v924 : BitVec 32 := Scalar.muli v11 c1_i32_631
  let v925 : BitVec 32 := Scalar.addi v923 v924
  v925.toNat
def k0_dev53 (d0 : Dev nD) : Nat :=
  let c0_i32_670 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_669 : BitVec 32 := 4#32
  let v969 : BitVec 32 := Scalar.muli v2 c4_i32_669
  let v970 : BitVec 32 := Scalar.addi c0_i32_670 v969
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_671 : BitVec 32 := 2#32
  let v971 : BitVec 32 := Scalar.muli v10 c2_i32_671
  let v972 : BitVec 32 := Scalar.addi v970 v971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v973 : BitVec 32 := Scalar.muli v8 c1_i32_672
  let v974 : BitVec 32 := Scalar.addi v972 v973
  v974.toNat
def k0_dev54 (d0 : Dev nD) : Nat :=
  let c0_i32_680 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_679 : BitVec 32 := 4#32
  let v982 : BitVec 32 := Scalar.muli v2 c4_i32_679
  let v983 : BitVec 32 := Scalar.addi c0_i32_680 v982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_681 : BitVec 32 := 2#32
  let v984 : BitVec 32 := Scalar.muli v5 c2_i32_681
  let v985 : BitVec 32 := Scalar.addi v983 v984
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_682 : BitVec 32 := 1#32
  let v986 : BitVec 32 := Scalar.muli v11 c1_i32_682
  let v987 : BitVec 32 := Scalar.addi v985 v986
  v987.toNat
def k0_off6 (d0 : Dev nD) (c128_i32_686 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v19 : BitVec 32 := Scalar.muli v5 c2_i32_10
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c4096_i32_12 : BitVec 32 := 4096#32
  let v22 : BitVec 32 := Scalar.muli v21 c4096_i32_12
  let v995 : BitVec 32 := Scalar.addi v22 c128_i32_686
  let c0_i32_703 : BitVec 32 := 0#32
  ![v995.toNat, 0]
def k0_dev55 (d0 : Dev nD) : Nat :=
  let c0_i32_700 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_699 : BitVec 32 := 4#32
  let v1007 : BitVec 32 := Scalar.muli v2 c4_i32_699
  let v1008 : BitVec 32 := Scalar.addi c0_i32_700 v1007
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_701 : BitVec 32 := 2#32
  let v1009 : BitVec 32 := Scalar.muli v10 c2_i32_701
  let v1010 : BitVec 32 := Scalar.addi v1008 v1009
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_702 : BitVec 32 := 1#32
  let v1011 : BitVec 32 := Scalar.muli v8 c1_i32_702
  let v1012 : BitVec 32 := Scalar.addi v1010 v1011
  v1012.toNat
def k0_dev56 (d0 : Dev nD) : Nat :=
  let c0_i32_761 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_760 : BitVec 32 := 4#32
  let v1071 : BitVec 32 := Scalar.muli v2 c4_i32_760
  let v1072 : BitVec 32 := Scalar.addi c0_i32_761 v1071
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_762 : BitVec 32 := 2#32
  let v1073 : BitVec 32 := Scalar.muli v10 c2_i32_762
  let v1074 : BitVec 32 := Scalar.addi v1072 v1073
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_763 : BitVec 32 := 1#32
  let v1075 : BitVec 32 := Scalar.muli v8 c1_i32_763
  let v1076 : BitVec 32 := Scalar.addi v1074 v1075
  v1076.toNat
def k0_dev57 (d0 : Dev nD) : Nat :=
  let c0_i32_771 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_770 : BitVec 32 := 4#32
  let v1084 : BitVec 32 := Scalar.muli v2 c4_i32_770
  let v1085 : BitVec 32 := Scalar.addi c0_i32_771 v1084
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_772 : BitVec 32 := 2#32
  let v1086 : BitVec 32 := Scalar.muli v5 c2_i32_772
  let v1087 : BitVec 32 := Scalar.addi v1085 v1086
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_773 : BitVec 32 := 1#32
  let v1088 : BitVec 32 := Scalar.muli v11 c1_i32_773
  let v1089 : BitVec 32 := Scalar.addi v1087 v1088
  v1089.toNat
def k0_dev58 (d0 : Dev nD) : Nat :=
  let c0_i32_833 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_832 : BitVec 32 := 4#32
  let v1149 : BitVec 32 := Scalar.muli v2 c4_i32_832
  let v1150 : BitVec 32 := Scalar.addi c0_i32_833 v1149
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_834 : BitVec 32 := 2#32
  let v1151 : BitVec 32 := Scalar.muli v10 c2_i32_834
  let v1152 : BitVec 32 := Scalar.addi v1150 v1151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_835 : BitVec 32 := 1#32
  let v1153 : BitVec 32 := Scalar.muli v8 c1_i32_835
  let v1154 : BitVec 32 := Scalar.addi v1152 v1153
  v1154.toNat
def k0_dev59 (d0 : Dev nD) : Nat :=
  let c0_i32_843 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_842 : BitVec 32 := 4#32
  let v1162 : BitVec 32 := Scalar.muli v2 c4_i32_842
  let v1163 : BitVec 32 := Scalar.addi c0_i32_843 v1162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_844 : BitVec 32 := 2#32
  let v1164 : BitVec 32 := Scalar.muli v5 c2_i32_844
  let v1165 : BitVec 32 := Scalar.addi v1163 v1164
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_845 : BitVec 32 := 1#32
  let v1166 : BitVec 32 := Scalar.muli v11 c1_i32_845
  let v1167 : BitVec 32 := Scalar.addi v1165 v1166
  v1167.toNat
def k0_dev60 (d0 : Dev nD) : Nat :=
  let c0_i32_863 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_862 : BitVec 32 := 4#32
  let v1187 : BitVec 32 := Scalar.muli v2 c4_i32_862
  let v1188 : BitVec 32 := Scalar.addi c0_i32_863 v1187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_864 : BitVec 32 := 2#32
  let v1189 : BitVec 32 := Scalar.muli v5 c2_i32_864
  let v1190 : BitVec 32 := Scalar.addi v1188 v1189
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_865 : BitVec 32 := 1#32
  let v1191 : BitVec 32 := Scalar.muli v11 c1_i32_865
  let v1192 : BitVec 32 := Scalar.addi v1190 v1191
  v1192.toNat
def k0_dev61 (d0 : Dev nD) : Nat :=
  let c0_i32_924 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_923 : BitVec 32 := 4#32
  let v1251 : BitVec 32 := Scalar.muli v2 c4_i32_923
  let v1252 : BitVec 32 := Scalar.addi c0_i32_924 v1251
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_925 : BitVec 32 := 2#32
  let v1253 : BitVec 32 := Scalar.muli v10 c2_i32_925
  let v1254 : BitVec 32 := Scalar.addi v1252 v1253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_926 : BitVec 32 := 1#32
  let v1255 : BitVec 32 := Scalar.muli v8 c1_i32_926
  let v1256 : BitVec 32 := Scalar.addi v1254 v1255
  v1256.toNat
def k0_dev62 (d0 : Dev nD) : Nat :=
  let c0_i32_934 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_933 : BitVec 32 := 4#32
  let v1264 : BitVec 32 := Scalar.muli v2 c4_i32_933
  let v1265 : BitVec 32 := Scalar.addi c0_i32_934 v1264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_935 : BitVec 32 := 2#32
  let v1266 : BitVec 32 := Scalar.muli v5 c2_i32_935
  let v1267 : BitVec 32 := Scalar.addi v1265 v1266
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_936 : BitVec 32 := 1#32
  let v1268 : BitVec 32 := Scalar.muli v11 c1_i32_936
  let v1269 : BitVec 32 := Scalar.addi v1267 v1268
  v1269.toNat
def k0_dev63 (d0 : Dev nD) : Nat :=
  let c0_i32_954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_953 : BitVec 32 := 4#32
  let v1289 : BitVec 32 := Scalar.muli v2 c4_i32_953
  let v1290 : BitVec 32 := Scalar.addi c0_i32_954 v1289
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_955 : BitVec 32 := 2#32
  let v1291 : BitVec 32 := Scalar.muli v10 c2_i32_955
  let v1292 : BitVec 32 := Scalar.addi v1290 v1291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_956 : BitVec 32 := 1#32
  let v1293 : BitVec 32 := Scalar.muli v8 c1_i32_956
  let v1294 : BitVec 32 := Scalar.addi v1292 v1293
  v1294.toNat
def k0_dev64 (d0 : Dev nD) : Nat :=
  let c0_i32_1015 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1014 : BitVec 32 := 4#32
  let v1353 : BitVec 32 := Scalar.muli v2 c4_i32_1014
  let v1354 : BitVec 32 := Scalar.addi c0_i32_1015 v1353
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1016 : BitVec 32 := 2#32
  let v1355 : BitVec 32 := Scalar.muli v10 c2_i32_1016
  let v1356 : BitVec 32 := Scalar.addi v1354 v1355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1017 : BitVec 32 := 1#32
  let v1357 : BitVec 32 := Scalar.muli v8 c1_i32_1017
  let v1358 : BitVec 32 := Scalar.addi v1356 v1357
  v1358.toNat
def k0_dev65 (d0 : Dev nD) : Nat :=
  let c0_i32_1025 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1024 : BitVec 32 := 4#32
  let v1366 : BitVec 32 := Scalar.muli v2 c4_i32_1024
  let v1367 : BitVec 32 := Scalar.addi c0_i32_1025 v1366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1026 : BitVec 32 := 2#32
  let v1368 : BitVec 32 := Scalar.muli v5 c2_i32_1026
  let v1369 : BitVec 32 := Scalar.addi v1367 v1368
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1027 : BitVec 32 := 1#32
  let v1370 : BitVec 32 := Scalar.muli v11 c1_i32_1027
  let v1371 : BitVec 32 := Scalar.addi v1369 v1370
  v1371.toNat
def k0_dev66 (d0 : Dev nD) : Nat :=
  let c0_i32_1087 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1086 : BitVec 32 := 4#32
  let v1431 : BitVec 32 := Scalar.muli v2 c4_i32_1086
  let v1432 : BitVec 32 := Scalar.addi c0_i32_1087 v1431
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1088 : BitVec 32 := 2#32
  let v1433 : BitVec 32 := Scalar.muli v10 c2_i32_1088
  let v1434 : BitVec 32 := Scalar.addi v1432 v1433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1089 : BitVec 32 := 1#32
  let v1435 : BitVec 32 := Scalar.muli v8 c1_i32_1089
  let v1436 : BitVec 32 := Scalar.addi v1434 v1435
  v1436.toNat
def k0_dev67 (d0 : Dev nD) : Nat :=
  let c0_i32_1097 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1096 : BitVec 32 := 4#32
  let v1444 : BitVec 32 := Scalar.muli v2 c4_i32_1096
  let v1445 : BitVec 32 := Scalar.addi c0_i32_1097 v1444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1098 : BitVec 32 := 2#32
  let v1446 : BitVec 32 := Scalar.muli v5 c2_i32_1098
  let v1447 : BitVec 32 := Scalar.addi v1445 v1446
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1099 : BitVec 32 := 1#32
  let v1448 : BitVec 32 := Scalar.muli v11 c1_i32_1099
  let v1449 : BitVec 32 := Scalar.addi v1447 v1448
  v1449.toNat
def k0_dev68 (d0 : Dev nD) : Nat :=
  let c0_i32_1117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1116 : BitVec 32 := 4#32
  let v1469 : BitVec 32 := Scalar.muli v2 c4_i32_1116
  let v1470 : BitVec 32 := Scalar.addi c0_i32_1117 v1469
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1118 : BitVec 32 := 2#32
  let v1471 : BitVec 32 := Scalar.muli v5 c2_i32_1118
  let v1472 : BitVec 32 := Scalar.addi v1470 v1471
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1119 : BitVec 32 := 1#32
  let v1473 : BitVec 32 := Scalar.muli v11 c1_i32_1119
  let v1474 : BitVec 32 := Scalar.addi v1472 v1473
  v1474.toNat
def k0_dev69 (d0 : Dev nD) : Nat :=
  let c0_i32_1178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1177 : BitVec 32 := 4#32
  let v1533 : BitVec 32 := Scalar.muli v2 c4_i32_1177
  let v1534 : BitVec 32 := Scalar.addi c0_i32_1178 v1533
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1179 : BitVec 32 := 2#32
  let v1535 : BitVec 32 := Scalar.muli v10 c2_i32_1179
  let v1536 : BitVec 32 := Scalar.addi v1534 v1535
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1180 : BitVec 32 := 1#32
  let v1537 : BitVec 32 := Scalar.muli v8 c1_i32_1180
  let v1538 : BitVec 32 := Scalar.addi v1536 v1537
  v1538.toNat
def k0_dev70 (d0 : Dev nD) : Nat :=
  let c0_i32_1188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1187 : BitVec 32 := 4#32
  let v1546 : BitVec 32 := Scalar.muli v2 c4_i32_1187
  let v1547 : BitVec 32 := Scalar.addi c0_i32_1188 v1546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1189 : BitVec 32 := 2#32
  let v1548 : BitVec 32 := Scalar.muli v5 c2_i32_1189
  let v1549 : BitVec 32 := Scalar.addi v1547 v1548
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1190 : BitVec 32 := 1#32
  let v1550 : BitVec 32 := Scalar.muli v11 c1_i32_1190
  let v1551 : BitVec 32 := Scalar.addi v1549 v1550
  v1551.toNat
def k0_dev71 (d0 : Dev nD) : Nat :=
  let c0_i32_1208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1207 : BitVec 32 := 4#32
  let v1571 : BitVec 32 := Scalar.muli v2 c4_i32_1207
  let v1572 : BitVec 32 := Scalar.addi c0_i32_1208 v1571
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1209 : BitVec 32 := 2#32
  let v1573 : BitVec 32 := Scalar.muli v10 c2_i32_1209
  let v1574 : BitVec 32 := Scalar.addi v1572 v1573
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1210 : BitVec 32 := 1#32
  let v1575 : BitVec 32 := Scalar.muli v8 c1_i32_1210
  let v1576 : BitVec 32 := Scalar.addi v1574 v1575
  v1576.toNat
def k0_dev72 (d0 : Dev nD) : Nat :=
  let c0_i32_1269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1268 : BitVec 32 := 4#32
  let v1635 : BitVec 32 := Scalar.muli v2 c4_i32_1268
  let v1636 : BitVec 32 := Scalar.addi c0_i32_1269 v1635
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1270 : BitVec 32 := 2#32
  let v1637 : BitVec 32 := Scalar.muli v10 c2_i32_1270
  let v1638 : BitVec 32 := Scalar.addi v1636 v1637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1271 : BitVec 32 := 1#32
  let v1639 : BitVec 32 := Scalar.muli v8 c1_i32_1271
  let v1640 : BitVec 32 := Scalar.addi v1638 v1639
  v1640.toNat
def k0_dev73 (d0 : Dev nD) : Nat :=
  let c0_i32_1279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1278 : BitVec 32 := 4#32
  let v1648 : BitVec 32 := Scalar.muli v2 c4_i32_1278
  let v1649 : BitVec 32 := Scalar.addi c0_i32_1279 v1648
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1280 : BitVec 32 := 2#32
  let v1650 : BitVec 32 := Scalar.muli v5 c2_i32_1280
  let v1651 : BitVec 32 := Scalar.addi v1649 v1650
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1281 : BitVec 32 := 1#32
  let v1652 : BitVec 32 := Scalar.muli v11 c1_i32_1281
  let v1653 : BitVec 32 := Scalar.addi v1651 v1652
  v1653.toNat
def k0_dev74 (d0 : Dev nD) : Nat :=
  let c0_i32_1341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1340 : BitVec 32 := 4#32
  let v1713 : BitVec 32 := Scalar.muli v2 c4_i32_1340
  let v1714 : BitVec 32 := Scalar.addi c0_i32_1341 v1713
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1342 : BitVec 32 := 2#32
  let v1715 : BitVec 32 := Scalar.muli v10 c2_i32_1342
  let v1716 : BitVec 32 := Scalar.addi v1714 v1715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1343 : BitVec 32 := 1#32
  let v1717 : BitVec 32 := Scalar.muli v8 c1_i32_1343
  let v1718 : BitVec 32 := Scalar.addi v1716 v1717
  v1718.toNat
def k0_dev75 (d0 : Dev nD) : Nat :=
  let c0_i32_1351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1350 : BitVec 32 := 4#32
  let v1726 : BitVec 32 := Scalar.muli v2 c4_i32_1350
  let v1727 : BitVec 32 := Scalar.addi c0_i32_1351 v1726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1352 : BitVec 32 := 2#32
  let v1728 : BitVec 32 := Scalar.muli v5 c2_i32_1352
  let v1729 : BitVec 32 := Scalar.addi v1727 v1728
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1353 : BitVec 32 := 1#32
  let v1730 : BitVec 32 := Scalar.muli v11 c1_i32_1353
  let v1731 : BitVec 32 := Scalar.addi v1729 v1730
  v1731.toNat
def k0_dev76 (d0 : Dev nD) : Nat :=
  let c0_i32_1371 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1370 : BitVec 32 := 4#32
  let v1751 : BitVec 32 := Scalar.muli v2 c4_i32_1370
  let v1752 : BitVec 32 := Scalar.addi c0_i32_1371 v1751
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1372 : BitVec 32 := 2#32
  let v1753 : BitVec 32 := Scalar.muli v5 c2_i32_1372
  let v1754 : BitVec 32 := Scalar.addi v1752 v1753
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1373 : BitVec 32 := 1#32
  let v1755 : BitVec 32 := Scalar.muli v11 c1_i32_1373
  let v1756 : BitVec 32 := Scalar.addi v1754 v1755
  v1756.toNat
def k0_dev77 (d0 : Dev nD) : Nat :=
  let c0_i32_1432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1431 : BitVec 32 := 4#32
  let v1815 : BitVec 32 := Scalar.muli v2 c4_i32_1431
  let v1816 : BitVec 32 := Scalar.addi c0_i32_1432 v1815
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1433 : BitVec 32 := 2#32
  let v1817 : BitVec 32 := Scalar.muli v10 c2_i32_1433
  let v1818 : BitVec 32 := Scalar.addi v1816 v1817
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1434 : BitVec 32 := 1#32
  let v1819 : BitVec 32 := Scalar.muli v8 c1_i32_1434
  let v1820 : BitVec 32 := Scalar.addi v1818 v1819
  v1820.toNat
def k0_dev78 (d0 : Dev nD) : Nat :=
  let c0_i32_1442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1441 : BitVec 32 := 4#32
  let v1828 : BitVec 32 := Scalar.muli v2 c4_i32_1441
  let v1829 : BitVec 32 := Scalar.addi c0_i32_1442 v1828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1443 : BitVec 32 := 2#32
  let v1830 : BitVec 32 := Scalar.muli v5 c2_i32_1443
  let v1831 : BitVec 32 := Scalar.addi v1829 v1830
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1444 : BitVec 32 := 1#32
  let v1832 : BitVec 32 := Scalar.muli v11 c1_i32_1444
  let v1833 : BitVec 32 := Scalar.addi v1831 v1832
  v1833.toNat
def k0_dev79 (d0 : Dev nD) : Nat :=
  let c0_i32_1462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1461 : BitVec 32 := 4#32
  let v1853 : BitVec 32 := Scalar.muli v2 c4_i32_1461
  let v1854 : BitVec 32 := Scalar.addi c0_i32_1462 v1853
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1463 : BitVec 32 := 2#32
  let v1855 : BitVec 32 := Scalar.muli v10 c2_i32_1463
  let v1856 : BitVec 32 := Scalar.addi v1854 v1855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1464 : BitVec 32 := 1#32
  let v1857 : BitVec 32 := Scalar.muli v8 c1_i32_1464
  let v1858 : BitVec 32 := Scalar.addi v1856 v1857
  v1858.toNat
def k0_dev80 (d0 : Dev nD) : Nat :=
  let c0_i32_1523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1522 : BitVec 32 := 4#32
  let v1917 : BitVec 32 := Scalar.muli v2 c4_i32_1522
  let v1918 : BitVec 32 := Scalar.addi c0_i32_1523 v1917
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1524 : BitVec 32 := 2#32
  let v1919 : BitVec 32 := Scalar.muli v10 c2_i32_1524
  let v1920 : BitVec 32 := Scalar.addi v1918 v1919
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1525 : BitVec 32 := 1#32
  let v1921 : BitVec 32 := Scalar.muli v8 c1_i32_1525
  let v1922 : BitVec 32 := Scalar.addi v1920 v1921
  v1922.toNat
def k0_dev81 (d0 : Dev nD) : Nat :=
  let c0_i32_1533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1532 : BitVec 32 := 4#32
  let v1930 : BitVec 32 := Scalar.muli v2 c4_i32_1532
  let v1931 : BitVec 32 := Scalar.addi c0_i32_1533 v1930
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1534 : BitVec 32 := 2#32
  let v1932 : BitVec 32 := Scalar.muli v5 c2_i32_1534
  let v1933 : BitVec 32 := Scalar.addi v1931 v1932
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1535 : BitVec 32 := 1#32
  let v1934 : BitVec 32 := Scalar.muli v11 c1_i32_1535
  let v1935 : BitVec 32 := Scalar.addi v1933 v1934
  v1935.toNat
def k0_dev82 (d0 : Dev nD) : Nat :=
  let c0_i32_1595 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1594 : BitVec 32 := 4#32
  let v1995 : BitVec 32 := Scalar.muli v2 c4_i32_1594
  let v1996 : BitVec 32 := Scalar.addi c0_i32_1595 v1995
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1596 : BitVec 32 := 2#32
  let v1997 : BitVec 32 := Scalar.muli v10 c2_i32_1596
  let v1998 : BitVec 32 := Scalar.addi v1996 v1997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1597 : BitVec 32 := 1#32
  let v1999 : BitVec 32 := Scalar.muli v8 c1_i32_1597
  let v2000 : BitVec 32 := Scalar.addi v1998 v1999
  v2000.toNat
def k0_dev83 (d0 : Dev nD) : Nat :=
  let c0_i32_1605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1604 : BitVec 32 := 4#32
  let v2008 : BitVec 32 := Scalar.muli v2 c4_i32_1604
  let v2009 : BitVec 32 := Scalar.addi c0_i32_1605 v2008
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1606 : BitVec 32 := 2#32
  let v2010 : BitVec 32 := Scalar.muli v5 c2_i32_1606
  let v2011 : BitVec 32 := Scalar.addi v2009 v2010
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1607 : BitVec 32 := 1#32
  let v2012 : BitVec 32 := Scalar.muli v11 c1_i32_1607
  let v2013 : BitVec 32 := Scalar.addi v2011 v2012
  v2013.toNat
def k0_dev84 (d0 : Dev nD) : Nat :=
  let c0_i32_1625 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1624 : BitVec 32 := 4#32
  let v2033 : BitVec 32 := Scalar.muli v2 c4_i32_1624
  let v2034 : BitVec 32 := Scalar.addi c0_i32_1625 v2033
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1626 : BitVec 32 := 2#32
  let v2035 : BitVec 32 := Scalar.muli v5 c2_i32_1626
  let v2036 : BitVec 32 := Scalar.addi v2034 v2035
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1627 : BitVec 32 := 1#32
  let v2037 : BitVec 32 := Scalar.muli v11 c1_i32_1627
  let v2038 : BitVec 32 := Scalar.addi v2036 v2037
  v2038.toNat
def k0_dev85 (d0 : Dev nD) : Nat :=
  let c0_i32_1686 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1685 : BitVec 32 := 4#32
  let v2097 : BitVec 32 := Scalar.muli v2 c4_i32_1685
  let v2098 : BitVec 32 := Scalar.addi c0_i32_1686 v2097
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1687 : BitVec 32 := 2#32
  let v2099 : BitVec 32 := Scalar.muli v10 c2_i32_1687
  let v2100 : BitVec 32 := Scalar.addi v2098 v2099
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1688 : BitVec 32 := 1#32
  let v2101 : BitVec 32 := Scalar.muli v8 c1_i32_1688
  let v2102 : BitVec 32 := Scalar.addi v2100 v2101
  v2102.toNat
def k0_dev86 (d0 : Dev nD) : Nat :=
  let c0_i32_1696 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1695 : BitVec 32 := 4#32
  let v2110 : BitVec 32 := Scalar.muli v2 c4_i32_1695
  let v2111 : BitVec 32 := Scalar.addi c0_i32_1696 v2110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1697 : BitVec 32 := 2#32
  let v2112 : BitVec 32 := Scalar.muli v5 c2_i32_1697
  let v2113 : BitVec 32 := Scalar.addi v2111 v2112
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1698 : BitVec 32 := 1#32
  let v2114 : BitVec 32 := Scalar.muli v11 c1_i32_1698
  let v2115 : BitVec 32 := Scalar.addi v2113 v2114
  v2115.toNat
def k0_dev87 (d0 : Dev nD) : Nat :=
  let c0_i32_1716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1715 : BitVec 32 := 4#32
  let v2135 : BitVec 32 := Scalar.muli v2 c4_i32_1715
  let v2136 : BitVec 32 := Scalar.addi c0_i32_1716 v2135
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1717 : BitVec 32 := 2#32
  let v2137 : BitVec 32 := Scalar.muli v10 c2_i32_1717
  let v2138 : BitVec 32 := Scalar.addi v2136 v2137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1718 : BitVec 32 := 1#32
  let v2139 : BitVec 32 := Scalar.muli v8 c1_i32_1718
  let v2140 : BitVec 32 := Scalar.addi v2138 v2139
  v2140.toNat
def k0_dev88 (d0 : Dev nD) : Nat :=
  let c0_i32_1777 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1776 : BitVec 32 := 4#32
  let v2199 : BitVec 32 := Scalar.muli v2 c4_i32_1776
  let v2200 : BitVec 32 := Scalar.addi c0_i32_1777 v2199
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1778 : BitVec 32 := 2#32
  let v2201 : BitVec 32 := Scalar.muli v10 c2_i32_1778
  let v2202 : BitVec 32 := Scalar.addi v2200 v2201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1779 : BitVec 32 := 1#32
  let v2203 : BitVec 32 := Scalar.muli v8 c1_i32_1779
  let v2204 : BitVec 32 := Scalar.addi v2202 v2203
  v2204.toNat
def k0_dev89 (d0 : Dev nD) : Nat :=
  let c0_i32_1787 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1786 : BitVec 32 := 4#32
  let v2212 : BitVec 32 := Scalar.muli v2 c4_i32_1786
  let v2213 : BitVec 32 := Scalar.addi c0_i32_1787 v2212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1788 : BitVec 32 := 2#32
  let v2214 : BitVec 32 := Scalar.muli v5 c2_i32_1788
  let v2215 : BitVec 32 := Scalar.addi v2213 v2214
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1789 : BitVec 32 := 1#32
  let v2216 : BitVec 32 := Scalar.muli v11 c1_i32_1789
  let v2217 : BitVec 32 := Scalar.addi v2215 v2216
  v2217.toNat
def k0_dev90 (d0 : Dev nD) : Nat :=
  let c0_i32_1849 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1848 : BitVec 32 := 4#32
  let v2277 : BitVec 32 := Scalar.muli v2 c4_i32_1848
  let v2278 : BitVec 32 := Scalar.addi c0_i32_1849 v2277
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1850 : BitVec 32 := 2#32
  let v2279 : BitVec 32 := Scalar.muli v10 c2_i32_1850
  let v2280 : BitVec 32 := Scalar.addi v2278 v2279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1851 : BitVec 32 := 1#32
  let v2281 : BitVec 32 := Scalar.muli v8 c1_i32_1851
  let v2282 : BitVec 32 := Scalar.addi v2280 v2281
  v2282.toNat
def k0_dev91 (d0 : Dev nD) : Nat :=
  let c0_i32_1859 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1858 : BitVec 32 := 4#32
  let v2290 : BitVec 32 := Scalar.muli v2 c4_i32_1858
  let v2291 : BitVec 32 := Scalar.addi c0_i32_1859 v2290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1860 : BitVec 32 := 2#32
  let v2292 : BitVec 32 := Scalar.muli v5 c2_i32_1860
  let v2293 : BitVec 32 := Scalar.addi v2291 v2292
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1861 : BitVec 32 := 1#32
  let v2294 : BitVec 32 := Scalar.muli v11 c1_i32_1861
  let v2295 : BitVec 32 := Scalar.addi v2293 v2294
  v2295.toNat
def k0_dev92 (d0 : Dev nD) : Nat :=
  let c0_i32_1879 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1878 : BitVec 32 := 4#32
  let v2315 : BitVec 32 := Scalar.muli v2 c4_i32_1878
  let v2316 : BitVec 32 := Scalar.addi c0_i32_1879 v2315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1880 : BitVec 32 := 2#32
  let v2317 : BitVec 32 := Scalar.muli v5 c2_i32_1880
  let v2318 : BitVec 32 := Scalar.addi v2316 v2317
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1881 : BitVec 32 := 1#32
  let v2319 : BitVec 32 := Scalar.muli v11 c1_i32_1881
  let v2320 : BitVec 32 := Scalar.addi v2318 v2319
  v2320.toNat
def k0_dev93 (d0 : Dev nD) : Nat :=
  let c0_i32_1940 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1939 : BitVec 32 := 4#32
  let v2379 : BitVec 32 := Scalar.muli v2 c4_i32_1939
  let v2380 : BitVec 32 := Scalar.addi c0_i32_1940 v2379
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1941 : BitVec 32 := 2#32
  let v2381 : BitVec 32 := Scalar.muli v10 c2_i32_1941
  let v2382 : BitVec 32 := Scalar.addi v2380 v2381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1942 : BitVec 32 := 1#32
  let v2383 : BitVec 32 := Scalar.muli v8 c1_i32_1942
  let v2384 : BitVec 32 := Scalar.addi v2382 v2383
  v2384.toNat
def k0_dev94 (d0 : Dev nD) : Nat :=
  let c0_i32_1950 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1949 : BitVec 32 := 4#32
  let v2392 : BitVec 32 := Scalar.muli v2 c4_i32_1949
  let v2393 : BitVec 32 := Scalar.addi c0_i32_1950 v2392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1951 : BitVec 32 := 2#32
  let v2394 : BitVec 32 := Scalar.muli v5 c2_i32_1951
  let v2395 : BitVec 32 := Scalar.addi v2393 v2394
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1952 : BitVec 32 := 1#32
  let v2396 : BitVec 32 := Scalar.muli v11 c1_i32_1952
  let v2397 : BitVec 32 := Scalar.addi v2395 v2396
  v2397.toNat
def k0_dev95 (d0 : Dev nD) : Nat :=
  let c0_i32_1970 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1969 : BitVec 32 := 4#32
  let v2417 : BitVec 32 := Scalar.muli v2 c4_i32_1969
  let v2418 : BitVec 32 := Scalar.addi c0_i32_1970 v2417
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1971 : BitVec 32 := 2#32
  let v2419 : BitVec 32 := Scalar.muli v10 c2_i32_1971
  let v2420 : BitVec 32 := Scalar.addi v2418 v2419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1972 : BitVec 32 := 1#32
  let v2421 : BitVec 32 := Scalar.muli v8 c1_i32_1972
  let v2422 : BitVec 32 := Scalar.addi v2420 v2421
  v2422.toNat
def k0_dev96 (d0 : Dev nD) : Nat :=
  let c0_i32_2031 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2030 : BitVec 32 := 4#32
  let v2481 : BitVec 32 := Scalar.muli v2 c4_i32_2030
  let v2482 : BitVec 32 := Scalar.addi c0_i32_2031 v2481
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2032 : BitVec 32 := 2#32
  let v2483 : BitVec 32 := Scalar.muli v10 c2_i32_2032
  let v2484 : BitVec 32 := Scalar.addi v2482 v2483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2033 : BitVec 32 := 1#32
  let v2485 : BitVec 32 := Scalar.muli v8 c1_i32_2033
  let v2486 : BitVec 32 := Scalar.addi v2484 v2485
  v2486.toNat
def k0_dev97 (d0 : Dev nD) : Nat :=
  let c0_i32_2041 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2040 : BitVec 32 := 4#32
  let v2494 : BitVec 32 := Scalar.muli v2 c4_i32_2040
  let v2495 : BitVec 32 := Scalar.addi c0_i32_2041 v2494
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2042 : BitVec 32 := 2#32
  let v2496 : BitVec 32 := Scalar.muli v5 c2_i32_2042
  let v2497 : BitVec 32 := Scalar.addi v2495 v2496
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2043 : BitVec 32 := 1#32
  let v2498 : BitVec 32 := Scalar.muli v11 c1_i32_2043
  let v2499 : BitVec 32 := Scalar.addi v2497 v2498
  v2499.toNat
def k0_dev98 (d0 : Dev nD) : Nat :=
  let c0_i32_2103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2102 : BitVec 32 := 4#32
  let v2559 : BitVec 32 := Scalar.muli v2 c4_i32_2102
  let v2560 : BitVec 32 := Scalar.addi c0_i32_2103 v2559
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2104 : BitVec 32 := 2#32
  let v2561 : BitVec 32 := Scalar.muli v10 c2_i32_2104
  let v2562 : BitVec 32 := Scalar.addi v2560 v2561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2105 : BitVec 32 := 1#32
  let v2563 : BitVec 32 := Scalar.muli v8 c1_i32_2105
  let v2564 : BitVec 32 := Scalar.addi v2562 v2563
  v2564.toNat
def k0_dev99 (d0 : Dev nD) : Nat :=
  let c0_i32_2113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2112 : BitVec 32 := 4#32
  let v2572 : BitVec 32 := Scalar.muli v2 c4_i32_2112
  let v2573 : BitVec 32 := Scalar.addi c0_i32_2113 v2572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2114 : BitVec 32 := 2#32
  let v2574 : BitVec 32 := Scalar.muli v5 c2_i32_2114
  let v2575 : BitVec 32 := Scalar.addi v2573 v2574
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2115 : BitVec 32 := 1#32
  let v2576 : BitVec 32 := Scalar.muli v11 c1_i32_2115
  let v2577 : BitVec 32 := Scalar.addi v2575 v2576
  v2577.toNat
def k0_dev100 (d0 : Dev nD) : Nat :=
  let c0_i32_2133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2132 : BitVec 32 := 4#32
  let v2597 : BitVec 32 := Scalar.muli v2 c4_i32_2132
  let v2598 : BitVec 32 := Scalar.addi c0_i32_2133 v2597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2134 : BitVec 32 := 2#32
  let v2599 : BitVec 32 := Scalar.muli v5 c2_i32_2134
  let v2600 : BitVec 32 := Scalar.addi v2598 v2599
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2135 : BitVec 32 := 1#32
  let v2601 : BitVec 32 := Scalar.muli v11 c1_i32_2135
  let v2602 : BitVec 32 := Scalar.addi v2600 v2601
  v2602.toNat
def k0_dev101 (d0 : Dev nD) : Nat :=
  let c0_i32_2194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2193 : BitVec 32 := 4#32
  let v2661 : BitVec 32 := Scalar.muli v2 c4_i32_2193
  let v2662 : BitVec 32 := Scalar.addi c0_i32_2194 v2661
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2195 : BitVec 32 := 2#32
  let v2663 : BitVec 32 := Scalar.muli v10 c2_i32_2195
  let v2664 : BitVec 32 := Scalar.addi v2662 v2663
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2196 : BitVec 32 := 1#32
  let v2665 : BitVec 32 := Scalar.muli v8 c1_i32_2196
  let v2666 : BitVec 32 := Scalar.addi v2664 v2665
  v2666.toNat
def k0_dev102 (d0 : Dev nD) : Nat :=
  let c0_i32_2204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2203 : BitVec 32 := 4#32
  let v2674 : BitVec 32 := Scalar.muli v2 c4_i32_2203
  let v2675 : BitVec 32 := Scalar.addi c0_i32_2204 v2674
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2205 : BitVec 32 := 2#32
  let v2676 : BitVec 32 := Scalar.muli v5 c2_i32_2205
  let v2677 : BitVec 32 := Scalar.addi v2675 v2676
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2206 : BitVec 32 := 1#32
  let v2678 : BitVec 32 := Scalar.muli v11 c1_i32_2206
  let v2679 : BitVec 32 := Scalar.addi v2677 v2678
  v2679.toNat
def k0_dev103 (d0 : Dev nD) : Nat :=
  let c0_i32_2224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2223 : BitVec 32 := 4#32
  let v2699 : BitVec 32 := Scalar.muli v2 c4_i32_2223
  let v2700 : BitVec 32 := Scalar.addi c0_i32_2224 v2699
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2225 : BitVec 32 := 2#32
  let v2701 : BitVec 32 := Scalar.muli v10 c2_i32_2225
  let v2702 : BitVec 32 := Scalar.addi v2700 v2701
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2226 : BitVec 32 := 1#32
  let v2703 : BitVec 32 := Scalar.muli v8 c1_i32_2226
  let v2704 : BitVec 32 := Scalar.addi v2702 v2703
  v2704.toNat
def k0_dev104 (d0 : Dev nD) : Nat :=
  let c0_i32_2285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2284 : BitVec 32 := 4#32
  let v2763 : BitVec 32 := Scalar.muli v2 c4_i32_2284
  let v2764 : BitVec 32 := Scalar.addi c0_i32_2285 v2763
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2286 : BitVec 32 := 2#32
  let v2765 : BitVec 32 := Scalar.muli v10 c2_i32_2286
  let v2766 : BitVec 32 := Scalar.addi v2764 v2765
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2287 : BitVec 32 := 1#32
  let v2767 : BitVec 32 := Scalar.muli v8 c1_i32_2287
  let v2768 : BitVec 32 := Scalar.addi v2766 v2767
  v2768.toNat
def k0_dev105 (d0 : Dev nD) : Nat :=
  let c0_i32_2295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2294 : BitVec 32 := 4#32
  let v2776 : BitVec 32 := Scalar.muli v2 c4_i32_2294
  let v2777 : BitVec 32 := Scalar.addi c0_i32_2295 v2776
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2296 : BitVec 32 := 2#32
  let v2778 : BitVec 32 := Scalar.muli v5 c2_i32_2296
  let v2779 : BitVec 32 := Scalar.addi v2777 v2778
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2297 : BitVec 32 := 1#32
  let v2780 : BitVec 32 := Scalar.muli v11 c1_i32_2297
  let v2781 : BitVec 32 := Scalar.addi v2779 v2780
  v2781.toNat
def k0_dev106 (d0 : Dev nD) : Nat :=
  let c0_i32_2357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2356 : BitVec 32 := 4#32
  let v2841 : BitVec 32 := Scalar.muli v2 c4_i32_2356
  let v2842 : BitVec 32 := Scalar.addi c0_i32_2357 v2841
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2358 : BitVec 32 := 2#32
  let v2843 : BitVec 32 := Scalar.muli v10 c2_i32_2358
  let v2844 : BitVec 32 := Scalar.addi v2842 v2843
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2359 : BitVec 32 := 1#32
  let v2845 : BitVec 32 := Scalar.muli v8 c1_i32_2359
  let v2846 : BitVec 32 := Scalar.addi v2844 v2845
  v2846.toNat
def k0_dev107 (d0 : Dev nD) : Nat :=
  let c0_i32_2367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2366 : BitVec 32 := 4#32
  let v2854 : BitVec 32 := Scalar.muli v2 c4_i32_2366
  let v2855 : BitVec 32 := Scalar.addi c0_i32_2367 v2854
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2368 : BitVec 32 := 2#32
  let v2856 : BitVec 32 := Scalar.muli v5 c2_i32_2368
  let v2857 : BitVec 32 := Scalar.addi v2855 v2856
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2369 : BitVec 32 := 1#32
  let v2858 : BitVec 32 := Scalar.muli v11 c1_i32_2369
  let v2859 : BitVec 32 := Scalar.addi v2857 v2858
  v2859.toNat
def k0_dev108 (d0 : Dev nD) : Nat :=
  let c0_i32_2387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2386 : BitVec 32 := 4#32
  let v2879 : BitVec 32 := Scalar.muli v2 c4_i32_2386
  let v2880 : BitVec 32 := Scalar.addi c0_i32_2387 v2879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2388 : BitVec 32 := 2#32
  let v2881 : BitVec 32 := Scalar.muli v5 c2_i32_2388
  let v2882 : BitVec 32 := Scalar.addi v2880 v2881
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2389 : BitVec 32 := 1#32
  let v2883 : BitVec 32 := Scalar.muli v11 c1_i32_2389
  let v2884 : BitVec 32 := Scalar.addi v2882 v2883
  v2884.toNat
def k0_dev109 (d0 : Dev nD) : Nat :=
  let c0_i32_2448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2447 : BitVec 32 := 4#32
  let v2943 : BitVec 32 := Scalar.muli v2 c4_i32_2447
  let v2944 : BitVec 32 := Scalar.addi c0_i32_2448 v2943
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2449 : BitVec 32 := 2#32
  let v2945 : BitVec 32 := Scalar.muli v10 c2_i32_2449
  let v2946 : BitVec 32 := Scalar.addi v2944 v2945
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2450 : BitVec 32 := 1#32
  let v2947 : BitVec 32 := Scalar.muli v8 c1_i32_2450
  let v2948 : BitVec 32 := Scalar.addi v2946 v2947
  v2948.toNat
def k0_dev110 (d0 : Dev nD) : Nat :=
  let c0_i32_2458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2457 : BitVec 32 := 4#32
  let v2956 : BitVec 32 := Scalar.muli v2 c4_i32_2457
  let v2957 : BitVec 32 := Scalar.addi c0_i32_2458 v2956
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2459 : BitVec 32 := 2#32
  let v2958 : BitVec 32 := Scalar.muli v5 c2_i32_2459
  let v2959 : BitVec 32 := Scalar.addi v2957 v2958
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2460 : BitVec 32 := 1#32
  let v2960 : BitVec 32 := Scalar.muli v11 c1_i32_2460
  let v2961 : BitVec 32 := Scalar.addi v2959 v2960
  v2961.toNat
def k0_dev111 (d0 : Dev nD) : Nat :=
  let c0_i32_2478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2477 : BitVec 32 := 4#32
  let v2981 : BitVec 32 := Scalar.muli v2 c4_i32_2477
  let v2982 : BitVec 32 := Scalar.addi c0_i32_2478 v2981
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2479 : BitVec 32 := 2#32
  let v2983 : BitVec 32 := Scalar.muli v10 c2_i32_2479
  let v2984 : BitVec 32 := Scalar.addi v2982 v2983
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2480 : BitVec 32 := 1#32
  let v2985 : BitVec 32 := Scalar.muli v8 c1_i32_2480
  let v2986 : BitVec 32 := Scalar.addi v2984 v2985
  v2986.toNat
def k0_dev112 (d0 : Dev nD) : Nat :=
  let c0_i32_2539 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2538 : BitVec 32 := 4#32
  let v3045 : BitVec 32 := Scalar.muli v2 c4_i32_2538
  let v3046 : BitVec 32 := Scalar.addi c0_i32_2539 v3045
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2540 : BitVec 32 := 2#32
  let v3047 : BitVec 32 := Scalar.muli v10 c2_i32_2540
  let v3048 : BitVec 32 := Scalar.addi v3046 v3047
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2541 : BitVec 32 := 1#32
  let v3049 : BitVec 32 := Scalar.muli v8 c1_i32_2541
  let v3050 : BitVec 32 := Scalar.addi v3048 v3049
  v3050.toNat
def k0_dev113 (d0 : Dev nD) : Nat :=
  let c0_i32_2549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2548 : BitVec 32 := 4#32
  let v3058 : BitVec 32 := Scalar.muli v2 c4_i32_2548
  let v3059 : BitVec 32 := Scalar.addi c0_i32_2549 v3058
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2550 : BitVec 32 := 2#32
  let v3060 : BitVec 32 := Scalar.muli v5 c2_i32_2550
  let v3061 : BitVec 32 := Scalar.addi v3059 v3060
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2551 : BitVec 32 := 1#32
  let v3062 : BitVec 32 := Scalar.muli v11 c1_i32_2551
  let v3063 : BitVec 32 := Scalar.addi v3061 v3062
  v3063.toNat
def k0_dev114 (d0 : Dev nD) : Nat :=
  let c0_i32_2611 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2610 : BitVec 32 := 4#32
  let v3123 : BitVec 32 := Scalar.muli v2 c4_i32_2610
  let v3124 : BitVec 32 := Scalar.addi c0_i32_2611 v3123
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2612 : BitVec 32 := 2#32
  let v3125 : BitVec 32 := Scalar.muli v10 c2_i32_2612
  let v3126 : BitVec 32 := Scalar.addi v3124 v3125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2613 : BitVec 32 := 1#32
  let v3127 : BitVec 32 := Scalar.muli v8 c1_i32_2613
  let v3128 : BitVec 32 := Scalar.addi v3126 v3127
  v3128.toNat
def k0_dev115 (d0 : Dev nD) : Nat :=
  let c0_i32_2621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2620 : BitVec 32 := 4#32
  let v3136 : BitVec 32 := Scalar.muli v2 c4_i32_2620
  let v3137 : BitVec 32 := Scalar.addi c0_i32_2621 v3136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2622 : BitVec 32 := 2#32
  let v3138 : BitVec 32 := Scalar.muli v5 c2_i32_2622
  let v3139 : BitVec 32 := Scalar.addi v3137 v3138
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2623 : BitVec 32 := 1#32
  let v3140 : BitVec 32 := Scalar.muli v11 c1_i32_2623
  let v3141 : BitVec 32 := Scalar.addi v3139 v3140
  v3141.toNat
def k0_dev116 (d0 : Dev nD) : Nat :=
  let c0_i32_2641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2640 : BitVec 32 := 4#32
  let v3161 : BitVec 32 := Scalar.muli v2 c4_i32_2640
  let v3162 : BitVec 32 := Scalar.addi c0_i32_2641 v3161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2642 : BitVec 32 := 2#32
  let v3163 : BitVec 32 := Scalar.muli v5 c2_i32_2642
  let v3164 : BitVec 32 := Scalar.addi v3162 v3163
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2643 : BitVec 32 := 1#32
  let v3165 : BitVec 32 := Scalar.muli v11 c1_i32_2643
  let v3166 : BitVec 32 := Scalar.addi v3164 v3165
  v3166.toNat
def k0_dev117 (d0 : Dev nD) : Nat :=
  let c0_i32_2702 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2701 : BitVec 32 := 4#32
  let v3225 : BitVec 32 := Scalar.muli v2 c4_i32_2701
  let v3226 : BitVec 32 := Scalar.addi c0_i32_2702 v3225
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2703 : BitVec 32 := 2#32
  let v3227 : BitVec 32 := Scalar.muli v10 c2_i32_2703
  let v3228 : BitVec 32 := Scalar.addi v3226 v3227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2704 : BitVec 32 := 1#32
  let v3229 : BitVec 32 := Scalar.muli v8 c1_i32_2704
  let v3230 : BitVec 32 := Scalar.addi v3228 v3229
  v3230.toNat
def k0_dev118 (d0 : Dev nD) : Nat :=
  let c0_i32_2712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2711 : BitVec 32 := 4#32
  let v3238 : BitVec 32 := Scalar.muli v2 c4_i32_2711
  let v3239 : BitVec 32 := Scalar.addi c0_i32_2712 v3238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2713 : BitVec 32 := 2#32
  let v3240 : BitVec 32 := Scalar.muli v5 c2_i32_2713
  let v3241 : BitVec 32 := Scalar.addi v3239 v3240
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2714 : BitVec 32 := 1#32
  let v3242 : BitVec 32 := Scalar.muli v11 c1_i32_2714
  let v3243 : BitVec 32 := Scalar.addi v3241 v3242
  v3243.toNat
def k0_dev119 (d0 : Dev nD) : Nat :=
  let c0_i32_2732 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2731 : BitVec 32 := 4#32
  let v3263 : BitVec 32 := Scalar.muli v2 c4_i32_2731
  let v3264 : BitVec 32 := Scalar.addi c0_i32_2732 v3263
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2733 : BitVec 32 := 2#32
  let v3265 : BitVec 32 := Scalar.muli v10 c2_i32_2733
  let v3266 : BitVec 32 := Scalar.addi v3264 v3265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2734 : BitVec 32 := 1#32
  let v3267 : BitVec 32 := Scalar.muli v8 c1_i32_2734
  let v3268 : BitVec 32 := Scalar.addi v3266 v3267
  v3268.toNat
def k0_dev120 (d0 : Dev nD) : Nat :=
  let c0_i32_2793 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2792 : BitVec 32 := 4#32
  let v3327 : BitVec 32 := Scalar.muli v2 c4_i32_2792
  let v3328 : BitVec 32 := Scalar.addi c0_i32_2793 v3327
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2794 : BitVec 32 := 2#32
  let v3329 : BitVec 32 := Scalar.muli v10 c2_i32_2794
  let v3330 : BitVec 32 := Scalar.addi v3328 v3329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2795 : BitVec 32 := 1#32
  let v3331 : BitVec 32 := Scalar.muli v8 c1_i32_2795
  let v3332 : BitVec 32 := Scalar.addi v3330 v3331
  v3332.toNat
def k0_dev121 (d0 : Dev nD) : Nat :=
  let c0_i32_2803 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2802 : BitVec 32 := 4#32
  let v3340 : BitVec 32 := Scalar.muli v2 c4_i32_2802
  let v3341 : BitVec 32 := Scalar.addi c0_i32_2803 v3340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2804 : BitVec 32 := 2#32
  let v3342 : BitVec 32 := Scalar.muli v5 c2_i32_2804
  let v3343 : BitVec 32 := Scalar.addi v3341 v3342
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2805 : BitVec 32 := 1#32
  let v3344 : BitVec 32 := Scalar.muli v11 c1_i32_2805
  let v3345 : BitVec 32 := Scalar.addi v3343 v3344
  v3345.toNat
def k0_dev122 (d0 : Dev nD) : Nat :=
  let c0_i32_2865 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2864 : BitVec 32 := 4#32
  let v3405 : BitVec 32 := Scalar.muli v2 c4_i32_2864
  let v3406 : BitVec 32 := Scalar.addi c0_i32_2865 v3405
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2866 : BitVec 32 := 2#32
  let v3407 : BitVec 32 := Scalar.muli v10 c2_i32_2866
  let v3408 : BitVec 32 := Scalar.addi v3406 v3407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2867 : BitVec 32 := 1#32
  let v3409 : BitVec 32 := Scalar.muli v8 c1_i32_2867
  let v3410 : BitVec 32 := Scalar.addi v3408 v3409
  v3410.toNat
def k0_dev123 (d0 : Dev nD) : Nat :=
  let c0_i32_2875 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2874 : BitVec 32 := 4#32
  let v3418 : BitVec 32 := Scalar.muli v2 c4_i32_2874
  let v3419 : BitVec 32 := Scalar.addi c0_i32_2875 v3418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2876 : BitVec 32 := 2#32
  let v3420 : BitVec 32 := Scalar.muli v5 c2_i32_2876
  let v3421 : BitVec 32 := Scalar.addi v3419 v3420
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2877 : BitVec 32 := 1#32
  let v3422 : BitVec 32 := Scalar.muli v11 c1_i32_2877
  let v3423 : BitVec 32 := Scalar.addi v3421 v3422
  v3423.toNat
def k0_dev124 (d0 : Dev nD) : Nat :=
  let c0_i32_2895 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2894 : BitVec 32 := 4#32
  let v3443 : BitVec 32 := Scalar.muli v2 c4_i32_2894
  let v3444 : BitVec 32 := Scalar.addi c0_i32_2895 v3443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2896 : BitVec 32 := 2#32
  let v3445 : BitVec 32 := Scalar.muli v5 c2_i32_2896
  let v3446 : BitVec 32 := Scalar.addi v3444 v3445
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2897 : BitVec 32 := 1#32
  let v3447 : BitVec 32 := Scalar.muli v11 c1_i32_2897
  let v3448 : BitVec 32 := Scalar.addi v3446 v3447
  v3448.toNat
def k0_dev125 (d0 : Dev nD) : Nat :=
  let c0_i32_2956 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2955 : BitVec 32 := 4#32
  let v3507 : BitVec 32 := Scalar.muli v2 c4_i32_2955
  let v3508 : BitVec 32 := Scalar.addi c0_i32_2956 v3507
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2957 : BitVec 32 := 2#32
  let v3509 : BitVec 32 := Scalar.muli v10 c2_i32_2957
  let v3510 : BitVec 32 := Scalar.addi v3508 v3509
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2958 : BitVec 32 := 1#32
  let v3511 : BitVec 32 := Scalar.muli v8 c1_i32_2958
  let v3512 : BitVec 32 := Scalar.addi v3510 v3511
  v3512.toNat
def k0_dev126 (d0 : Dev nD) : Nat :=
  let c0_i32_2966 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2965 : BitVec 32 := 4#32
  let v3520 : BitVec 32 := Scalar.muli v2 c4_i32_2965
  let v3521 : BitVec 32 := Scalar.addi c0_i32_2966 v3520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2967 : BitVec 32 := 2#32
  let v3522 : BitVec 32 := Scalar.muli v5 c2_i32_2967
  let v3523 : BitVec 32 := Scalar.addi v3521 v3522
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2968 : BitVec 32 := 1#32
  let v3524 : BitVec 32 := Scalar.muli v11 c1_i32_2968
  let v3525 : BitVec 32 := Scalar.addi v3523 v3524
  v3525.toNat
def k0_dev127 (d0 : Dev nD) : Nat :=
  let c0_i32_2986 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2985 : BitVec 32 := 4#32
  let v3545 : BitVec 32 := Scalar.muli v2 c4_i32_2985
  let v3546 : BitVec 32 := Scalar.addi c0_i32_2986 v3545
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2987 : BitVec 32 := 2#32
  let v3547 : BitVec 32 := Scalar.muli v10 c2_i32_2987
  let v3548 : BitVec 32 := Scalar.addi v3546 v3547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2988 : BitVec 32 := 1#32
  let v3549 : BitVec 32 := Scalar.muli v8 c1_i32_2988
  let v3550 : BitVec 32 := Scalar.addi v3548 v3549
  v3550.toNat
def k0_dev128 (d0 : Dev nD) : Nat :=
  let c0_i32_3047 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3046 : BitVec 32 := 4#32
  let v3609 : BitVec 32 := Scalar.muli v2 c4_i32_3046
  let v3610 : BitVec 32 := Scalar.addi c0_i32_3047 v3609
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_3048 : BitVec 32 := 2#32
  let v3611 : BitVec 32 := Scalar.muli v10 c2_i32_3048
  let v3612 : BitVec 32 := Scalar.addi v3610 v3611
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3049 : BitVec 32 := 1#32
  let v3613 : BitVec 32 := Scalar.muli v8 c1_i32_3049
  let v3614 : BitVec 32 := Scalar.addi v3612 v3613
  v3614.toNat
def k0_dev129 (d0 : Dev nD) : Nat :=
  let c0_i32_3057 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3056 : BitVec 32 := 4#32
  let v3622 : BitVec 32 := Scalar.muli v2 c4_i32_3056
  let v3623 : BitVec 32 := Scalar.addi c0_i32_3057 v3622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3058 : BitVec 32 := 2#32
  let v3624 : BitVec 32 := Scalar.muli v5 c2_i32_3058
  let v3625 : BitVec 32 := Scalar.addi v3623 v3624
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_3059 : BitVec 32 := 1#32
  let v3626 : BitVec 32 := Scalar.muli v11 c1_i32_3059
  let v3627 : BitVec 32 := Scalar.addi v3625 v3626
  v3627.toNat
def k0_off7 (d0 : Dev nD) (c256_i32_3063 : BitVec 32) : Fin 3 → Nat :=
  let c0_i32_3084 : BitVec 32 := 0#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_14 : BitVec 32 := 2#32
  let v24 : BitVec 32 := Scalar.muli v23 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4096_i32_16 : BitVec 32 := 4096#32
  let v27 : BitVec 32 := Scalar.muli v26 c4096_i32_16
  let v3635 : BitVec 32 := Scalar.addi v27 c256_i32_3063
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_3083 : BitVec 32 := 1024#32
  let v3651 : BitVec 32 := Scalar.muli v2 c1024_i32_3083
  ![0, v3635.toNat, v3651.toNat]
def k0_off8 (d0 : Dev nD) (c256_i32_3063 : BitVec 32) : Fin 2 → Nat :=
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let c2_i32_14 : BitVec 32 := 2#32
  let v24 : BitVec 32 := Scalar.muli v23 c2_i32_14
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c4096_i32_16 : BitVec 32 := 4096#32
  let v27 : BitVec 32 := Scalar.muli v26 c4096_i32_16
  let v3635 : BitVec 32 := Scalar.addi v27 c256_i32_3063
  let c0_i32_3112 : BitVec 32 := 0#32
  ![v3635.toNat, 0]
def k0_dev130 (d0 : Dev nD) : Nat :=
  let c0_i32_3128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3127 : BitVec 32 := 4#32
  let v3699 : BitVec 32 := Scalar.muli v2 c4_i32_3127
  let v3700 : BitVec 32 := Scalar.addi c0_i32_3128 v3699
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3129 : BitVec 32 := 2#32
  let v3701 : BitVec 32 := Scalar.muli v5 c2_i32_3129
  let v3702 : BitVec 32 := Scalar.addi v3700 v3701
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_3130 : BitVec 32 := 1#32
  let v3703 : BitVec 32 := Scalar.muli v11 c1_i32_3130
  let v3704 : BitVec 32 := Scalar.addi v3702 v3703
  v3704.toNat
def k0_dev131 (d0 : Dev nD) : Nat :=
  let c0_i32_3199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3198 : BitVec 32 := 4#32
  let v3775 : BitVec 32 := Scalar.muli v2 c4_i32_3198
  let v3776 : BitVec 32 := Scalar.addi c0_i32_3199 v3775
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_3200 : BitVec 32 := 2#32
  let v3777 : BitVec 32 := Scalar.muli v10 c2_i32_3200
  let v3778 : BitVec 32 := Scalar.addi v3776 v3777
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3201 : BitVec 32 := 1#32
  let v3779 : BitVec 32 := Scalar.muli v8 c1_i32_3201
  let v3780 : BitVec 32 := Scalar.addi v3778 v3779
  v3780.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Rolled.lean ====
/- The kernel's body once more, written as loops over its chunks: the views it addresses as functions of the chunk, and
   its statements as one list. `body_rolled` states that the printed body is this one. -/
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Tactic

@[expose] public section

set_option maxRecDepth 16384

noncomputable section

namespace Cert.KernelIdeal.Body

open Cert.KernelIdeal.Gen
open Idealize.ShloMosaic Idealize.ShloMosaic.TcCoe
open Idealize.SL Idealize.SL.Sem

variable {F : FTy → Type} [FloatOps F]

/-- The programs of the kernel's TensorCore thread. -/
abbrev KProg (F : FTy → Type) [FloatOps F] := Prog (TpuEff nD τ sig (Elt F) Λ₀ .tc) PUnit

/-! ## Devices -/

/-- The neighbour across `x`. -/
def xp (d : Dev nD) : Dev nD := ⟨k0_dev1 d, k0_dev1_lt d⟩
/-- The neighbour across `y`. -/
def yp (d : Dev nD) : Dev nD := ⟨k0_dev2 d, k0_dev2_lt d⟩
/-- The neighbour across `z`. -/
def zp (d : Dev nD) : Dev nD := ⟨k0_dev3 d, k0_dev3_lt d⟩

/-! ## Semaphores -/

/-- The `i`-th semaphore of an array of 42. -/
def sem42 (a : DmaSems sig S42) (i : Fin 42) : DmaSem sig :=
  ((a.slice (Rect.unit (s := S42) ![i.val] S1.size (by intro a; fin_cases a; have := i.isLt; simp [S1, S42]; omega))).squeeze S_ squeezes_S1_S_).sem
/-- The `i`-th semaphore of an array of 43. -/
def sem43 (a : DmaSems sig S43) (i : Fin 43) : DmaSem sig :=
  ((a.slice (Rect.unit (s := S43) ![i.val] S1.size (by intro a; fin_cases a; have := i.isLt; simp [S1, S43]; omega))).squeeze S_ squeezes_S1_S_).sem
/-- The `i`-th semaphore of an array of four. -/
def sem4 (a : DmaSems sig S4) (i : Fin 4) : DmaSem sig :=
  ((a.slice (Rect.unit (s := S4) ![i.val] S1.size (by intro a; fin_cases a; have := i.isLt; simp [S1, S4]; omega))).squeeze S_ squeezes_S1_S_).sem

/-- The send semaphore of transfer `i` across `x`. -/
def xs (i : Fin 42) : DmaSem sig := sem42 cc0_scratch2 i
/-- The receive semaphore of transfer `i` across `x`. -/
def xr (i : Fin 42) : DmaSem sig := sem42 cc0_scratch3 i
/-- The send semaphores across `y`: the chunks' (the first 32), then the forwards'. -/
def ys (i : Fin 43) : DmaSem sig := sem43 cc0_scratch4 i
/-- The receive semaphores across `y`. -/
def yr (i : Fin 43) : DmaSem sig := sem43 cc0_scratch5 i
/-- The send semaphores across `z`. -/
def zs (i : Fin 43) : DmaSem sig := sem43 cc0_scratch6 i
/-- The receive semaphores across `z`. -/
def zr (i : Fin 43) : DmaSem sig := sem43 cc0_scratch7 i
/-- The semaphore of the local load into slot `s`. -/
def la (s : Fin 4) : DmaSem sig := sem4 cc0_scratch8 s
/-- The semaphore of the local store out of slot `s`. -/
def st (s : Fin 4) : DmaSem sig := sem4 cc0_scratch9 s

/-! ## Views -/

/-- The input, the result, the receive buffer and the accumulators. -/
abbrev xM : Memref sig .tc .hbm S1x16384x2048 .f32 := Memref.whole main_arg0
abbrev oM : Memref sig .tc .hbm S16384x1024 .f32 := Memref.whole main_v1
abbrev rM : Memref sig .tc .vmem S5376x1024 .f32 := Memref.whole cc0_scratch0
abbrev vM : Memref sig .tc .vmem S4x128x1024 .f32 := Memref.whole cc0_scratch1

/-- Where chunk `i` starts in the input, in the columns the x-neighbour answers for. -/
def sendOff (d : Dev nD) (i : Fin 42) : Fin 3 → Nat :=
  if h : i.val < 32 then k0_off1 d (BitVec.ofNat 32 (128 * (⟨i.val, h⟩ : Fin 32).val))
  else k0_off2 d (BitVec.ofNat 32 (256 + 384 * (⟨i.val - 32, by omega⟩ : Fin 10).val))
theorem sendOff_inb (d : Dev nD) (i : Fin 42) : ∀ a, sendOff d i a + S1x128x1024.size a ≤ S1x16384x2048.size a := by
  unfold sendOff; split
  · exact k0_off1_inb d _
  · exact k0_off2_inb d _
/-- Where chunk `i` starts in the input, in this device's own columns. -/
def loadOff (d : Dev nD) (i : Fin 42) : Fin 3 → Nat :=
  if h : i.val < 32 then k0_off3 d (BitVec.ofNat 32 (128 * (⟨i.val, h⟩ : Fin 32).val))
  else k0_off7 d (BitVec.ofNat 32 (256 + 384 * (⟨i.val - 32, by omega⟩ : Fin 10).val))
theorem loadOff_inb (d : Dev nD) (i : Fin 42) : ∀ a, loadOff d i a + S1x128x1024.size a ≤ S1x16384x2048.size a := by
  unfold loadOff; split
  · exact k0_off3_inb d _
  · exact k0_off7_inb d _
/-- Where chunk `i` starts in the result. -/
def outOff (d : Dev nD) (i : Fin 42) : Fin 2 → Nat :=
  if h : i.val < 32 then k0_off4 d (BitVec.ofNat 32 (128 * (⟨i.val, h⟩ : Fin 32).val))
  else k0_off8 d (BitVec.ofNat 32 (256 + 384 * (⟨i.val - 32, by omega⟩ : Fin 10).val))
theorem outOff_inb (d : Dev nD) (i : Fin 42) : ∀ a, outOff d i a + S128x1024.size a ≤ S16384x1024.size a := by
  unfold outOff; split
  · exact k0_off4_inb d _
  · exact k0_off8_inb d _

def sendV (d : Dev nD) (i : Fin 42) : Memref sig .tc .hbm S128x1024 .f32 :=
  (xM.slice (Rect.unit (s := S1x16384x2048) (sendOff d i) S1x128x1024.size (sendOff_inb d i)) (fun _ => rfl)).squeeze S128x1024 squeezes_S1x128x1024_S128x1024
def loadV (d : Dev nD) (i : Fin 42) : Memref sig .tc .hbm S128x1024 .f32 :=
  (xM.slice (Rect.unit (s := S1x16384x2048) (loadOff d i) S1x128x1024.size (loadOff_inb d i)) (fun _ => rfl)).squeeze S128x1024 squeezes_S1x128x1024_S128x1024
def outV (d : Dev nD) (i : Fin 42) : Memref sig .tc .hbm S128x1024 .f32 :=
  oM.slice (Rect.unit (s := S16384x1024) (outOff d i) S128x1024.size (outOff_inb d i)) (fun _ => rfl)
theorem slotR_inb (i : Fin 42) : ∀ a, (![128 * i.val, 0] : Fin 2 → Nat) a + S128x1024.size a ≤ S5376x1024.size a := by
  intro a; have := i.isLt; fin_cases a <;> simp [S128x1024, S5376x1024] <;> omega
/-- Slot `i` of the receive buffer, as a rectangle. -/
def slotR (i : Fin 42) : Rect S5376x1024 := Rect.unit (s := S5376x1024) ![128 * i.val, 0] S128x1024.size (slotR_inb i)
def slotV (i : Fin 42) : Memref sig .tc .vmem S128x1024 .f32 :=
  rM.slice (slotR i) (fun _ => rfl)
theorem accR_inb (s : Fin 4) : ∀ a, (![s.val, 0, 0] : Fin 3 → Nat) a + S1x128x1024.size a ≤ S4x128x1024.size a := by
  intro a; have := s.isLt; fin_cases a <;> simp [S1x128x1024, S4x128x1024] <;> omega
def accR (s : Fin 4) : Rect S4x128x1024 := Rect.unit (s := S4x128x1024) ![s.val, 0, 0] S1x128x1024.size (accR_inb s)
def accV (s : Fin 4) : Memref sig .tc .vmem S128x1024 .f32 :=
  (vM.slice (accR s) (fun _ => rfl)).squeeze S128x1024 squeezes_S1x128x1024_S128x1024
/-- The forwarded chunk `k` across `z`, in the result: rows the y-neighbour computed. -/
def fzV (d : Dev nD) (k : Fin 11) : Memref sig .tc .hbm S128x1024 .f32 :=
  oM.slice (Rect.unit (s := S16384x1024) (k0_off5 d (BitVec.ofNat 32 (384 * k.val))) S128x1024.size (k0_off5_inb d k)) (fun _ => rfl)
/-- The forwarded chunk `k` across `y`, in the result: rows the z-neighbour computed. -/
def fyV (d : Dev nD) (k : Fin 11) : Memref sig .tc .hbm S128x1024 .f32 :=
  oM.slice (Rect.unit (s := S16384x1024) (k0_off6 d (BitVec.ofNat 32 (128 + 384 * k.val))) S128x1024.size (k0_off6_inb d k)) (fun _ => rfl)

/-! ## Statements -/

/-- The accumulator's slot of chunk `i`. -/
def slot (i : Fin 42) : Fin 4 := ⟨i.val % 4, Nat.mod_lt _ (by decide)⟩
/-- A chunk of the own quadrant among the transfers. -/
def q32 (j : Fin 32) : Fin 42 := ⟨j.val, by omega⟩
/-- A chunk of the own quadrant among a neighbour's semaphores. -/
def s32 (j : Fin 32) : Fin 43 := ⟨j.val, by omega⟩
/-- A forwarded chunk among the semaphores. -/
def f11 (k : Fin 11) : Fin 43 := ⟨32 + k.val, by omega⟩

/-- The sum the kernel stores: what the accumulator held and what came across `x`. -/
def sumPay (v : Vec F S1x128x1024 .f32) (r : Vec F S128x1024 .f32) : FVec F S1x128x1024 .f32 :=
  shapeCast S1x128x1024 (addf (shapeCast S128x1024 v shapeCasts_S1x128x1024_S128x1024) r) shapeCasts_S128x1024_S1x128x1024

def pSignal (d : Dev nD) : KProg F := semSignalWord d (SemArray.scalar (sig.barrier 0 rfl) : Sems sig S_).sem 1#32
def pBarWait : KProg F := semWaitWord (SemArray.scalar (sig.barrier 0 rfl) : Sems sig S_).sem 3#32
def pXSend (d : Dev nD) (i : Fin 42) : KProg F :=
  Prog.lift (.enqueueDma (sendV d i) (.remote (Dev.tc (xp d)) (slotV i) (.dma (xs i))) (.dma (xr i)) ((View.wordExact_bits rfl).reshape _ _) (View.wordExact_bits rfl) ⟨⟨rfl, Or.inl rfl⟩, trivial⟩)
def pStWait (d : Dev nD) (i : Fin 42) : KProg F :=
  Prog.lift (.waitDma2 (st (slot i)) (accV (slot i)) (outV d i) ((View.wordExact_bits rfl).reshape _ _) (View.wordExact_bits rfl))
def pYsWait (d : Dev nD) (j : Fin 32) : KProg F :=
  Prog.lift (.waitDma2 (ys (s32 j)) (outV d (q32 j)) (accV (slot (q32 j))) (View.wordExact_bits rfl) ((View.wordExact_bits rfl).reshape _ _))
def pZsWait (d : Dev nD) (j : Fin 32) : KProg F :=
  Prog.lift (.waitDma2 (zs (s32 j)) (outV d (q32 j)) (accV (slot (q32 j))) (View.wordExact_bits rfl) ((View.wordExact_bits rfl).reshape _ _))
def pLoad (d : Dev nD) (i : Fin 42) : KProg F :=
  Prog.lift (.enqueueDma (loadV d i) (.here (accV (slot i))) (.dma (la (slot i))) ((View.wordExact_bits rfl).reshape _ _) ((View.wordExact_bits rfl).reshape _ _) ⟨Or.inl rfl, trivial⟩)
def pXrWait (d : Dev nD) (i : Fin 42) : KProg F :=
  Prog.lift (.waitDma2 (xr i) (sendV d i) (slotV i) ((View.wordExact_bits rfl).reshape _ _) (View.wordExact_bits rfl))
def pLaWait (d : Dev nD) (i : Fin 42) : KProg F :=
  Prog.lift (.waitDma2 (la (slot i)) (loadV d i) (accV (slot i)) ((View.wordExact_bits rfl).reshape _ _) ((View.wordExact_bits rfl).reshape _ _))
def pSum (i : Fin 42) : KProg F := do
  let v : Vec F S1x128x1024 .f32 ← Prog.lift (.load vM (accR (slot i)).toLoadRect (View.loadsAt_vmem h_S1x128x1024))
  let r : Vec F S128x1024 .f32 ← Prog.lift (.load rM (slotR i).toLoadRect (View.loadsAt_vmem h_S128x1024))
  let _w : Vec F S1x128x1024 .f32 ← Prog.lift (.load vM (accR (slot i)).toLoadRect (View.loadsAt_vmem h_S1x128x1024))
  Prog.lift (.store vM (accR (slot i)) (sumPay v r) Finset.univ (View.stores_vmem_bits_univ h_S1x128x1024 rfl) (.inl rfl))
def pStore (d : Dev nD) (i : Fin 42) : KProg F :=
  Prog.lift (.enqueueDma (accV (slot i)) (.here (outV d i)) (.dma (st (slot i))) ((View.wordExact_bits rfl).reshape _ _) (View.wordExact_bits rfl) ⟨Or.inl rfl, trivial⟩)
def pYSend (d : Dev nD) (j : Fin 32) : KProg F :=
  Prog.lift (.enqueueDma (accV (slot (q32 j))) (.remote (Dev.tc (yp d)) (outV d (q32 j)) (.dma (ys (s32 j)))) (.dma (yr (s32 j))) ((View.wordExact_bits rfl).reshape _ _) (View.wordExact_bits rfl) ⟨⟨rfl, Or.inl rfl⟩, trivial⟩)
def pZSend (d : Dev nD) (j : Fin 32) : KProg F :=
  Prog.lift (.enqueueDma (accV (slot (q32 j))) (.remote (Dev.tc (zp d)) (outV d (q32 j)) (.dma (zs (s32 j)))) (.dma (zr (s32 j))) ((View.wordExact_bits rfl).reshape _ _) (View.wordExact_bits rfl) ⟨⟨rfl, Or.inl rfl⟩, trivial⟩)
def pYrWait (d : Dev nD) (j : Fin 32) : KProg F :=
  Prog.lift (.waitDma2 (yr (s32 j)) (accV (slot (q32 j))) (outV d (q32 j)) ((View.wordExact_bits rfl).reshape _ _) (View.wordExact_bits rfl))
def pZrWait (d : Dev nD) (j : Fin 32) : KProg F :=
  Prog.lift (.waitDma2 (zr (s32 j)) (accV (slot (q32 j))) (outV d (q32 j)) ((View.wordExact_bits rfl).reshape _ _) (View.wordExact_bits rfl))
def pFzSend (d : Dev nD) (k : Fin 11) : KProg F :=
  Prog.lift (.enqueueDma (fzV d k) (.remote (Dev.tc (zp d)) (fzV d k) (.dma (zs (f11 k)))) (.dma (zr (f11 k))) (View.wordExact_bits rfl) (View.wordExact_bits rfl) ⟨⟨rfl, Or.inl rfl⟩, trivial⟩)
def pFySend (d : Dev nD) (k : Fin 11) : KProg F :=
  Prog.lift (.enqueueDma (fyV d k) (.remote (Dev.tc (yp d)) (fyV d k) (.dma (ys (f11 k)))) (.dma (yr (f11 k))) (View.wordExact_bits rfl) (View.wordExact_bits rfl) ⟨⟨rfl, Or.inl rfl⟩, trivial⟩)
def pFzWaitS (d : Dev nD) (k : Fin 11) : KProg F :=
  Prog.lift (.waitDma2 (zs (f11 k)) (fzV d k) (fzV d k) (View.wordExact_bits rfl) (View.wordExact_bits rfl))
def pFzWaitR (d : Dev nD) (k : Fin 11) : KProg F :=
  Prog.lift (.waitDma2 (zr (f11 k)) (fzV d k) (fzV d k) (View.wordExact_bits rfl) (View.wordExact_bits rfl))
def pFyWaitS (d : Dev nD) (k : Fin 11) : KProg F :=
  Prog.lift (.waitDma2 (ys (f11 k)) (fyV d k) (fyV d k) (View.wordExact_bits rfl) (View.wordExact_bits rfl))
def pFyWaitR (d : Dev nD) (k : Fin 11) : KProg F :=
  Prog.lift (.waitDma2 (yr (f11 k)) (fyV d k) (fyV d k) (View.wordExact_bits rfl) (View.wordExact_bits rfl))
def pXsWait (d : Dev nD) (i : Fin 42) : KProg F :=
  Prog.lift (.waitDma2 (xs i) (slotV i) (sendV d i) (View.wordExact_bits rfl) ((View.wordExact_bits rfl).reshape _ _))

/-- `n` turns of a loop, from turn `i`, then the rest. -/
def loop (f : Nat → KProg F) : Nat → Nat → KProg F → KProg F
  | 0, _, k => k
  | n + 1, i, k => f i >>= fun _ => loop f n (i + 1) k

/-- The forwarding step of chunk `j`. -/
def fwd (d : Dev nD) (j : Nat) (h : j < 32) : KProg F :=
  if h0 : j % 3 = 0 then pYrWait d ⟨j, h⟩ >>= fun _ => pFzSend d ⟨j / 3, by omega⟩
  else if h1 : j % 3 = 1 then pZrWait d ⟨j, h⟩ >>= fun _ => pFySend d ⟨j / 3, by omega⟩
  else pure ⟨⟩

/-- What turn `i` of the main loop does before its own chunk: free the slot it takes. -/
def turnA (d : Dev nD) (i : Fin 42) : KProg F :=
  if h : 4 ≤ i.val then
    pStWait d ⟨i.val - 4, by omega⟩ >>= fun _ =>
    if h' : i.val - 4 < 32 then pYsWait d ⟨i.val - 4, h'⟩ >>= fun _ => pZsWait d ⟨i.val - 4, h'⟩ else pure ⟨⟩
  else pure ⟨⟩
/-- The chunk of turn `i`: load, wait for the neighbour's part, add, store. -/
def turnB (d : Dev nD) (i : Fin 42) : KProg F :=
  pLoad d i >>= fun _ => pXrWait d i >>= fun _ => pLaWait d i >>= fun _ => pSum i >>= fun _ => pStore d i
/-- Send the chunk of turn `i` to the two other neighbours. -/
def turnC (d : Dev nD) (i : Fin 42) : KProg F :=
  if h : i.val < 32 then pYSend d ⟨i.val, h⟩ >>= fun _ => pZSend d ⟨i.val, h⟩ else pure ⟨⟩
/-- Forward what arrived two turns ago. -/
def turnD (d : Dev nD) (i : Fin 42) : KProg F :=
  if h : 2 ≤ i.val ∧ i.val - 2 < 32 then fwd d (i.val - 2) h.2 else pure ⟨⟩
def turn (d : Dev nD) (i : Fin 42) : KProg F :=
  turnA d i >>= fun _ => turnB d i >>= fun _ => turnC d i >>= fun _ => turnD d i

def tailFz (d : Dev nD) (k : Fin 11) : KProg F := pFzWaitS d k >>= fun _ => pFzWaitR d k
def tailFy (d : Dev nD) (k : Fin 11) : KProg F := pFyWaitS d k >>= fun _ => pFyWaitR d k
def tailQ (d : Dev nD) (j : Fin 32) : KProg F :=
  (if j.val % 3 ≠ 0 then pYrWait d j else pure ⟨⟩) >>= fun _ => if j.val % 3 ≠ 1 then pZrWait d j else pure ⟨⟩

/-- A turn at a number, for numbers below the bound. -/
def at_ {n : Nat} (f : Fin n → KProg F) (i : Nat) : KProg F := if h : i < n then f ⟨i, h⟩ else pure ⟨⟩

/-- The body of device `d`. -/
def rolled (d : Dev nD) : KProg F :=
  pSignal (xp d) >>= fun _ => pSignal (yp d) >>= fun _ => pSignal (zp d) >>= fun _ => pBarWait >>= fun _ =>
  loop (at_ (pXSend d)) 42 0 <|
  loop (at_ (turn d)) 42 0 <|
  pStWait d 40 >>= fun _ => pStWait d 41 >>= fun _ => pStWait d 38 >>= fun _ => pStWait d 39 >>= fun _ =>
  loop (at_ (tailFz d)) 11 0 <|
  loop (at_ (tailFy d)) 11 0 <|
  loop (at_ (tailQ d)) 32 0 <|
  loop (at_ (pXsWait d)) 42 0 <| pure ⟨⟩

set_option maxHeartbeats 4000000 in
/-- The printed body is the rolled one. -/
theorem body_rolled (t : Fin cfg0.N) : bodyAt0 (F := F) t = (Prog.lift .deviceId >>= fun d => rolled d) := by
  rfl

end Cert.KernelIdeal.Body

end
-- ==== Proof.Mesh.lean ====
/- The mesh, the blocks of rows, and the views of the kernel by the block they address.

   The eight devices are a cube; `xp`, `yp`, `zp` are the three neighbours. The result has 128 blocks of 128 rows and
   the input 128 blocks in two halves of columns. Every view the body takes is one such block. -/
module

public import proofs.«01_k».proof.Proof.Rolled
public import Idealize.ShloMosaic.Lib.ValueLayout
public import Idealize.ShloMosaic.Lib.Pipeline.ValueKit.Geometry

@[expose] public section

set_option maxRecDepth 16384

noncomputable section

namespace Cert.KernelIdeal.Body

open Cert.KernelIdeal.Gen
open Idealize.ShloMosaic Idealize.ShloMosaic.TcCoe
open Idealize.SL Idealize.SL.Sem

/-! ## Devices -/

theorem xp_xp (d : Dev nD) : xp (xp d) = d := by revert d; decide
theorem yp_yp (d : Dev nD) : yp (yp d) = d := by revert d; decide
theorem zp_zp (d : Dev nD) : zp (zp d) = d := by revert d; decide
theorem yp_zp (d : Dev nD) : yp (zp d) = zp (yp d) := by revert d; decide
theorem zp_ne_yp (d : Dev nD) : zp d ≠ yp d := by revert d; decide
theorem xp_yp (d : Dev nD) : xp (yp d) = yp (xp d) := by revert d; decide
theorem xp_zp (d : Dev nD) : xp (zp d) = zp (xp d) := by revert d; decide

/-- The three neighbour maps as permutations of the mesh. -/
def xEq : Dev nD ≃ Dev nD := ⟨xp, xp, xp_xp, xp_xp⟩
def yEq : Dev nD ≃ Dev nD := ⟨yp, yp, yp_yp, yp_yp⟩
def zEq : Dev nD ≃ Dev nD := ⟨zp, zp, zp_zp, zp_zp⟩

/-! ## Blocks -/

/-- The block of rows that device `d` computes as its chunk `i`: the first 32 chunks are its own quadrant, the others
    every third block of the quadrant diagonal to it. -/
def ob (d : Dev nD) (i : Fin 42) : Fin 128 :=
  if h : i.val < 32 then ⟨32 * (d.val % 4) + i.val, by omega⟩
  else ⟨32 * (3 - d.val % 4) + (2 + 3 * (i.val - 32)), by omega⟩
/-- The half of the input's columns that device `d` answers for. -/
def mine (d : Dev nD) : Fin 2 := ⟨d.val / 4, by have := d.isLt; simp only [nD] at this; omega⟩
/-- The other half. -/
def oth (d : Dev nD) : Fin 2 := ⟨1 - d.val / 4, by omega⟩
/-- The chunks a device forwards across `z`, by number. -/
def t0 (k : Fin 11) : Fin 32 := ⟨3 * k.val, by omega⟩
/-- The chunks a device forwards across `y`, by number. -/
def t1 (k : Fin 11) : Fin 32 := ⟨3 * k.val + 1, by omega⟩
/-- The block forwarded across `z` as number `k`: the y-neighbour computed it. -/
def fzb (d : Dev nD) (k : Fin 11) : Fin 128 := ob (yp d) (q32 (t0 k))
/-- The block forwarded across `y` as number `k`: the z-neighbour computed it. -/
def fyb (d : Dev nD) (k : Fin 11) : Fin 128 := ob (zp d) (q32 (t1 k))

theorem ob_xp (d : Dev nD) (i : Fin 42) : ob (xp d) i = ob d i := by revert d i; decide +kernel
theorem mine_xp (d : Dev nD) : mine (xp d) = oth d := by revert d; decide
theorem oth_xp (d : Dev nD) : oth (xp d) = mine d := by revert d; decide
theorem mine_yp (d : Dev nD) : mine (yp d) = mine d := by revert d; decide
theorem mine_zp (d : Dev nD) : mine (zp d) = mine d := by revert d; decide

/-! ## Views by block -/

theorem xV_inb (b : Fin 128) (h : Fin 2) : ∀ a, (![0, 128 * b.val, 1024 * h.val] : Fin 3 → Nat) a + S1x128x1024.size a ≤ S1x16384x2048.size a := by
  intro a; have := b.isLt; have := h.isLt; fin_cases a <;> simp [S1x128x1024, S1x16384x2048] <;> omega
/-- Block `b` of the input's rows, half `h` of its columns. -/
def xV (b : Fin 128) (h : Fin 2) : Memref sig .tc .hbm S128x1024 .f32 :=
  (xM.slice (Rect.unit (s := S1x16384x2048) ![0, 128 * b.val, 1024 * h.val] S1x128x1024.size (xV_inb b h)) (fun _ => rfl)).squeeze S128x1024 squeezes_S1x128x1024_S128x1024
theorem oV_inb (b : Fin 128) : ∀ a, (![128 * b.val, 0] : Fin 2 → Nat) a + S128x1024.size a ≤ S16384x1024.size a := by
  intro a; have := b.isLt; fin_cases a <;> simp [S128x1024, S16384x1024] <;> omega
/-- Block `b` of the result's rows. -/
def oV (b : Fin 128) : Memref sig .tc .hbm S128x1024 .f32 :=
  oM.slice (Rect.unit (s := S16384x1024) ![128 * b.val, 0] S128x1024.size (oV_inb b)) (fun _ => rfl)

theorem sendOff_eq (d : Dev nD) (i : Fin 42) : sendOff d i = ![0, 128 * (ob d i).val, 1024 * (oth d).val] := by
  have h : ∀ (d : Dev nD) (i : Fin 42) (a : Fin 3), sendOff d i a = (![0, 128 * (ob d i).val, 1024 * (oth d).val] : Fin 3 → Nat) a := by decide +kernel
  exact funext (h d i)
theorem loadOff_eq (d : Dev nD) (i : Fin 42) : loadOff d i = ![0, 128 * (ob d i).val, 1024 * (mine d).val] := by
  have h : ∀ (d : Dev nD) (i : Fin 42) (a : Fin 3), loadOff d i a = (![0, 128 * (ob d i).val, 1024 * (mine d).val] : Fin 3 → Nat) a := by decide +kernel
  exact funext (h d i)
theorem outOff_eq (d : Dev nD) (i : Fin 42) : outOff d i = ![128 * (ob d i).val, 0] := by
  have h : ∀ (d : Dev nD) (i : Fin 42) (a : Fin 2), outOff d i a = (![128 * (ob d i).val, 0] : Fin 2 → Nat) a := by decide +kernel
  exact funext (h d i)
theorem fzOff_eq (d : Dev nD) (k : Fin 11) : k0_off5 d (BitVec.ofNat 32 (384 * k.val)) = ![128 * (fzb d k).val, 0] := by
  have h : ∀ (d : Dev nD) (k : Fin 11) (a : Fin 2), k0_off5 d (BitVec.ofNat 32 (384 * k.val)) a = (![128 * (fzb d k).val, 0] : Fin 2 → Nat) a := by decide +kernel
  exact funext (h d k)
theorem fyOff_eq (d : Dev nD) (k : Fin 11) : k0_off6 d (BitVec.ofNat 32 (128 + 384 * k.val)) = ![128 * (fyb d k).val, 0] := by
  have h : ∀ (d : Dev nD) (k : Fin 11) (a : Fin 2), k0_off6 d (BitVec.ofNat 32 (128 + 384 * k.val)) a = (![128 * (fyb d k).val, 0] : Fin 2 → Nat) a := by decide +kernel
  exact funext (h d k)

/-- Two slices of the input at equal starts are one view. -/
theorem xSlice_congr {o o' : Fin 3 → Nat} (e : o = o') (h : ∀ a, o a + S1x128x1024.size a ≤ S1x16384x2048.size a)
    (h' : ∀ a, o' a + S1x128x1024.size a ≤ S1x16384x2048.size a) :
    (xM.slice (Rect.unit (s := S1x16384x2048) o S1x128x1024.size h) (fun _ => rfl)).squeeze S128x1024 squeezes_S1x128x1024_S128x1024
      = (xM.slice (Rect.unit (s := S1x16384x2048) o' S1x128x1024.size h') (fun _ => rfl)).squeeze S128x1024 squeezes_S1x128x1024_S128x1024 := by
  subst e; rfl
/-- Two slices of the result at equal starts are one view. -/
theorem oSlice_congr {o o' : Fin 2 → Nat} (e : o = o') (h : ∀ a, o a + S128x1024.size a ≤ S16384x1024.size a)
    (h' : ∀ a, o' a + S128x1024.size a ≤ S16384x1024.size a) :
    oM.slice (Rect.unit (s := S16384x1024) o S128x1024.size h) (fun _ => rfl)
      = oM.slice (Rect.unit (s := S16384x1024) o' S128x1024.size h') (fun _ => rfl) := by
  subst e; rfl

theorem sendV_eq (d : Dev nD) (i : Fin 42) : sendV d i = xV (ob d i) (oth d) := xSlice_congr (sendOff_eq d i) _ _
theorem loadV_eq (d : Dev nD) (i : Fin 42) : loadV d i = xV (ob d i) (mine d) := xSlice_congr (loadOff_eq d i) _ _
theorem outV_eq (d : Dev nD) (i : Fin 42) : outV d i = oV (ob d i) := oSlice_congr (outOff_eq d i) _ _
theorem fzV_eq (d : Dev nD) (k : Fin 11) : fzV d k = oV (fzb d k) := oSlice_congr (fzOff_eq d k) _ _
theorem fyV_eq (d : Dev nD) (k : Fin 11) : fyV d k = oV (fyb d k) := oSlice_congr (fyOff_eq d k) _ _

/-! ## The elements of the views -/

/-- The block an index of the result lies in. -/
def oBlk (y : S16384x1024.Idx) : Fin 128 := ⟨(y 0).val / 128, by have : (y 0).val < 16384 := (y 0).isLt; omega⟩
/-- The slot an index of the receive buffer lies in. -/
def rBlk (y : S5376x1024.Idx) : Fin 42 := ⟨(y 0).val / 128, by have : (y 0).val < 5376 := (y 0).isLt; omega⟩
/-- The block and the half an index of the input lies in. -/
def xBlk (y : S1x16384x2048.Idx) : Fin 128 × Fin 2 :=
  (⟨(y 1).val / 128, by have : (y 1).val < 16384 := (y 1).isLt; omega⟩, ⟨(y 2).val / 1024, by have : (y 2).val < 2048 := (y 2).isLt; omega⟩)
/-- The slot an index of the accumulators lies in. -/
def vBlk (y : S4x128x1024.Idx) : Fin 4 := ⟨(y 0).val, (y 0).isLt⟩

theorem mem_oV (b : Fin 128) (y : S16384x1024.Idx) : y ∈ (oV b).view.set ↔ oBlk y = b := by
  refine ValueKit.mem_set_slice_whole_iff main_v1 _ y (Rect.mem_set_unit.trans ?_)
  have h1 : (y 1).val < 1024 := (y 1).isLt
  refine Fin.forall_fin_two.trans ?_
  rw [Fin.ext_iff]
  show (128 * b.val ≤ (y 0).val ∧ (y 0).val < 128 * b.val + 128) ∧ (0 ≤ (y 1).val ∧ (y 1).val < 0 + 1024) ↔ (y 0).val / 128 = b.val
  omega
theorem mem_slotV (i : Fin 42) (y : S5376x1024.Idx) : y ∈ (slotV i).view.set ↔ rBlk y = i := by
  refine ValueKit.mem_set_slice_whole_iff cc0_scratch0 _ y (Rect.mem_set_unit.trans ?_)
  have h1 : (y 1).val < 1024 := (y 1).isLt
  refine Fin.forall_fin_two.trans ?_
  rw [Fin.ext_iff]
  show (128 * i.val ≤ (y 0).val ∧ (y 0).val < 128 * i.val + 128) ∧ (0 ≤ (y 1).val ∧ (y 1).val < 0 + 1024) ↔ (y 0).val / 128 = i.val
  omega
theorem xV_set (b : Fin 128) (h : Fin 2) :
    (xV b h).view.set = (Rect.unit (s := S1x16384x2048) ![0, 128 * b.val, 1024 * h.val] S1x128x1024.size (xV_inb b h)).set :=
  (View.set_reshape _ _).trans (View.set_slice_whole main_arg0 _)
theorem mem_xV (p : Fin 128 × Fin 2) (y : S1x16384x2048.Idx) : y ∈ (xV p.1 p.2).view.set ↔ xBlk y = p := by
  rw [xV_set]
  refine Rect.mem_set_unit.trans ?_
  have h0 : (y 0).val < 1 := (y 0).isLt
  rw [Fin.forall_fin_succ, Fin.forall_fin_two, Prod.ext_iff, Fin.ext_iff, Fin.ext_iff]
  show (0 ≤ (y 0).val ∧ (y 0).val < 0 + 1) ∧ (128 * p.1.val ≤ (y 1).val ∧ (y 1).val < 128 * p.1.val + 128)
    ∧ (1024 * p.2.val ≤ (y 2).val ∧ (y 2).val < 1024 * p.2.val + 1024) ↔ (y 1).val / 128 = p.1.val ∧ (y 2).val / 1024 = p.2.val
  omega
theorem mem_accR (s : Fin 4) (y : S4x128x1024.Idx) : y ∈ (accR s).set ↔ vBlk y = s := by
  refine Rect.mem_set_unit.trans ?_
  have h1 : (y 1).val < 128 := (y 1).isLt
  have h2 : (y 2).val < 1024 := (y 2).isLt
  rw [Fin.forall_fin_succ, Fin.forall_fin_two, Fin.ext_iff]
  show (s.val ≤ (y 0).val ∧ (y 0).val < s.val + 1) ∧ (0 ≤ (y 1).val ∧ (y 1).val < 0 + 128)
    ∧ (0 ≤ (y 2).val ∧ (y 2).val < 0 + 1024) ↔ (y 0).val = s.val
  omega
theorem accV_set (s : Fin 4) : (accV s).view.set = (accR s).set :=
  (View.set_reshape _ _).trans (View.set_slice_whole cc0_scratch1 _)
theorem mem_accV (s : Fin 4) (y : S4x128x1024.Idx) : y ∈ (accV s).view.set ↔ vBlk y = s := by
  rw [accV_set]; exact mem_accR s y

/-! ## Which blocks a device touches -/

/-- The blocks of the result as a device names them: its own chunks, the two neighbours' quadrants, and the diagonal
    blocks that arrive forwarded. -/
abbrev OI : Type := Fin 42 ⊕ (Fin 32 ⊕ (Fin 32 ⊕ (Fin 11 ⊕ Fin 11)))
/-- Where each lies: the diagonal blocks come across `z` (the first eleven) and across `y`. -/
def obk (d : Dev nD) : OI → Fin 128
  | .inl i => ob d i
  | .inr (.inl j) => ob (yp d) (q32 j)
  | .inr (.inr (.inl j)) => ob (zp d) (q32 j)
  | .inr (.inr (.inr (.inl k))) => fzb (zp d) k
  | .inr (.inr (.inr (.inr k))) => fyb (yp d) k
/-- The name of a block. -/
def obkInv (d : Dev nD) (b : Fin 128) : OI :=
  if b.val / 32 = d.val % 4 then .inl (q32 ⟨b.val % 32, by omega⟩)
  else if b.val / 32 = (yp d).val % 4 then .inr (.inl ⟨b.val % 32, by omega⟩)
  else if b.val / 32 = (zp d).val % 4 then .inr (.inr (.inl ⟨b.val % 32, by omega⟩))
  else if h0 : b.val % 32 % 3 = 0 then .inr (.inr (.inr (.inl ⟨b.val % 32 / 3, by omega⟩)))
  else if h1 : b.val % 32 % 3 = 1 then .inr (.inr (.inr (.inr ⟨b.val % 32 / 3, by omega⟩)))
  else .inl ⟨32 + b.val % 32 / 3, by omega⟩
theorem obk_obkInv (d : Dev nD) (b : Fin 128) : obk d (obkInv d b) = b := by revert d b; decide +kernel
/-- Every block has exactly one name. -/
def obkEq (d : Dev nD) : OI ≃ Fin 128 :=
  Equiv.ofBijective (obk d) ((Fintype.bijective_iff_surjective_and_card _).mpr ⟨fun b => ⟨obkInv d b, obk_obkInv d b⟩, by simp⟩)
theorem obkEq_apply (d : Dev nD) (i : OI) : obkEq d i = obk d i := rfl

/-- The device that computes block `b` for device `d`: the one on `d`'s side of the columns whose chunk it is. -/
def srcDev (d : Dev nD) (b : Fin 128) : Dev nD :=
  match obkInv d b with
  | .inl _ => d
  | .inr (.inl _) => yp d
  | .inr (.inr (.inl _)) => zp d
  | .inr (.inr (.inr _)) => yp (zp d)

theorem srcDev_own (d : Dev nD) (i : Fin 42) : srcDev d (ob d i) = d := by revert d i; decide +kernel
theorem srcDev_yp (d : Dev nD) (j : Fin 32) : srcDev (yp d) (ob d (q32 j)) = d := by revert d j; decide +kernel
theorem srcDev_zp (d : Dev nD) (j : Fin 32) : srcDev (zp d) (ob d (q32 j)) = d := by revert d j; decide +kernel
theorem srcDev_fz (d : Dev nD) (k : Fin 11) : srcDev (zp d) (fzb d k) = srcDev d (fzb d k) := by revert d k; decide +kernel
theorem srcDev_fy (d : Dev nD) (k : Fin 11) : srcDev (yp d) (fyb d k) = srcDev d (fyb d k) := by revert d k; decide +kernel
theorem mine_srcDev (d : Dev nD) (b : Fin 128) : mine (srcDev d b) = mine d := by revert d b; decide +kernel

end Cert.KernelIdeal.Body

end
-- ==== Proof.Contents.lean ====
/- What the buffers hold, and the ownership of their blocks.

   `X c` is device `c`'s input, `R c` what its receive buffer ends up with, `O c` its result, `V g` an accumulator
   slot holding the block `g`. Ownership is kept block by block; the blocks of a buffer make up the buffer. -/
module

public import proofs.«01_k».proof.Proof.Mesh
public import Idealize.ShloMosaic.Lib.Rounds
public import Idealize.ShloMosaic.Lib.Transfers
public import Idealize.ShloMosaic.Lib.Pipeline.Launch
public import Idealize.ShloMosaic.Lib.SparseCore.ProtocolKit

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.SparseCore.ProtocolKit

variable {F : FTy → Type} [FloatOps F]

/-! ## The resource algebra: the pipeline library's rounds, the kernel's own rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## A block's rows -/

omit [FloatOps F] in
/-- What was written through a view is what the view reads: contents off the view do not matter. -/
theorem write_pts {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  rw [View.write_emb_of_mem (h := Finset.mem_univ x), ← h, View.read_apply]
  simp

/-- The row inside its block, and the column, of an index of the receive buffer; -/
def rIn (y : S5376x1024.Idx) : S128x1024.Idx :=
  ValueIdx.ix2 (⟨(y 0).val % 128, Nat.mod_lt _ (by decide)⟩ : Fin 128) (⟨(y 1).val, (y 1).isLt⟩ : Fin 1024)
/-- of the result; -/
def oIn (y : S16384x1024.Idx) : S128x1024.Idx :=
  ValueIdx.ix2 (⟨(y 0).val % 128, Nat.mod_lt _ (by decide)⟩ : Fin 128) (⟨(y 1).val, (y 1).isLt⟩ : Fin 1024)
/-- of the accumulators. -/
def vIn (y : S4x128x1024.Idx) : S128x1024.Idx :=
  ValueIdx.ix2 (⟨(y 1).val, (y 1).isLt⟩ : Fin 128) (⟨(y 2).val, (y 2).isLt⟩ : Fin 1024)

theorem rIn_emb (i : Fin 42) (x : S128x1024.Idx) : rIn ((slotV i).view.emb x) = x := by
  obtain ⟨y, hy⟩ : ∃ y : S5376x1024.Idx, (slotV i).view.emb x = y := ⟨_, rfl⟩
  have h0 : (x 0).val < 128 := (x 0).isLt
  have e0 : (y 0).val = 128 * i.val + 1 * (x 0).val := by rw [← hy]; rfl
  have e1 : (y 1).val = 0 + 1 * (x 1).val := by rw [← hy]; rfl
  rw [hy]
  refine (funext fun a => Fin.ext ?_)
  match a with
  | ⟨0, _⟩ => show (y 0).val % 128 = (x 0).val; rw [e0]; omega
  | ⟨1, _⟩ => show (y 1).val = (x 1).val; rw [e1]; omega
theorem oIn_emb (b : Fin 128) (x : S128x1024.Idx) : oIn ((oV b).view.emb x) = x := by
  obtain ⟨y, hy⟩ : ∃ y : S16384x1024.Idx, (oV b).view.emb x = y := ⟨_, rfl⟩
  have h0 : (x 0).val < 128 := (x 0).isLt
  have e0 : (y 0).val = 128 * b.val + 1 * (x 0).val := by rw [← hy]; rfl
  have e1 : (y 1).val = 0 + 1 * (x 1).val := by rw [← hy]; rfl
  rw [hy]
  refine (funext fun a => Fin.ext ?_)
  match a with
  | ⟨0, _⟩ => show (y 0).val % 128 = (x 0).val; rw [e0]; omega
  | ⟨1, _⟩ => show (y 1).val = (x 1).val; rw [e1]; omega
theorem vIn_emb (s : Fin 4) (x : S128x1024.Idx) : vIn ((accV s).view.emb x) = x := by
  obtain ⟨y, hy⟩ : ∃ y : S4x128x1024.Idx, (accV s).view.emb x = y := ⟨_, rfl⟩
  have e : (Shape.reshapeEquiv (squeezes_S1x128x1024_S128x1024).numel_eq x : S1x128x1024.Idx)
      = ValueIdx.ix3 (0 : Fin 1) (x 0) (x 1) :=
    (congrArg _ (ValueIdx.eq_ix2 x)).trans (ValueIdx.reshapeEquiv_ix2_1ab _ _ _)
  have e1 : (y 1).val = 0 + 1 * ((Shape.reshapeEquiv (squeezes_S1x128x1024_S128x1024).numel_eq x : S1x128x1024.Idx) 1).val := by
    rw [← hy]; rfl
  have e2 : (y 2).val = 0 + 1 * ((Shape.reshapeEquiv (squeezes_S1x128x1024_S128x1024).numel_eq x : S1x128x1024.Idx) 2).val := by
    rw [← hy]; rfl
  rw [e] at e1 e2
  rw [hy]
  refine (funext fun a => Fin.ext ?_)
  match a with
  | ⟨0, _⟩ => show (y 1).val = (x 0).val; rw [e1]; show 0 + 1 * (x 0).val = _; omega
  | ⟨1, _⟩ => show (y 2).val = (x 1).val; rw [e2]; show 0 + 1 * (x 1).val = _; omega

/-! ## Contents -/

variable (m : (ℓ : Loc nD τ sig) → Buf (Elt F) ℓ)

/-- Device `c`'s input at launch. -/
def X (c : Dev nD) : Buf (Elt F) ((c : Thread nD τ).loc main_arg0) := m ((c : Thread nD τ).loc main_arg0)
/-- Its result buffer at launch. -/
def O0 (c : Dev nD) : Buf (Elt F) ((c : Thread nD τ).loc main_v1) := m ((c : Thread nD τ).loc main_v1)
/-- Block `b` of device `c`'s input, in half `h` of the columns. -/
def xBlock (c : Dev nD) (b : Fin 128) (h : Fin 2) : FVec F S128x1024 .f32 := (xV b h).view.read (Elt F) (X m c)
/-- Block `b` of the sum of the two inputs along `x`, in device `s`'s half of the columns, as device `s` adds it. -/
def addBlk (s : Dev nD) (b : Fin 128) : FVec F S128x1024 .f32 := addf (xBlock m s b (mine s)) (xBlock m (xp s) b (mine s))
/-- What device `c` receives across `x`: for each chunk its x-neighbour's part. -/
def R (c : Dev nD) : Buf (Elt F) ((c : Thread nD τ).loc cc0_scratch0) :=
  fun y => xBlock m (xp c) (ob c (rBlk y)) (mine c) (rIn y)
/-- Device `c`'s result: every block as the device that computes it adds it. -/
def O (c : Dev nD) : Buf (Elt F) ((c : Thread nD τ).loc main_v1) :=
  fun y => addBlk m (srcDev c (oBlk y)) (oBlk y) (oIn y)
/-- An accumulator slot that holds the block `g` (whatever the slot). -/
def V (c : Dev nD) (g : FVec F S128x1024 .f32) : Buf (Elt F) ((c : Thread nD τ).loc cc0_scratch1) := fun y => g (vIn y)

omit [FloatOps F] in
theorem read_R (c : Dev nD) (i : Fin 42) : (slotV i).view.read (Elt F) (R m c) = xBlock m (xp c) (ob c i) (mine c) := by
  funext x
  show xBlock m (xp c) (ob c (rBlk ((slotV i).view.emb x))) (mine c) (rIn ((slotV i).view.emb x)) = _
  rw [(mem_slotV i _).mp ((slotV i).view.emb_mem_set x), rIn_emb]
theorem read_O (c : Dev nD) (b : Fin 128) : (oV b).view.read (Elt F) (O m c) = addBlk m (srcDev c b) b := by
  funext x
  show addBlk m (srcDev c (oBlk ((oV b).view.emb x))) (oBlk ((oV b).view.emb x)) (oIn ((oV b).view.emb x)) = _
  rw [(mem_oV b _).mp ((oV b).view.emb_mem_set x), oIn_emb]
omit [FloatOps F] in
theorem read_V (c : Dev nD) (s : Fin 4) (g : FVec F S128x1024 .f32) : (accV s).view.read (Elt F) (V c g) = g := by
  funext x
  show g (vIn ((accV s).view.emb x)) = _
  rw [vIn_emb]

/-! ## Ownership of blocks -/

/-- Block `b`, half `h`, of device `c`'s input, holding what it held at launch. -/
def xAt (c : Dev nD) (b : Fin 128) (h : Fin 2) : sProp 𝕄 :=
  (xV b h).view.loc (c : Thread nD τ) ↦[(xV b h).view.set]{fullShare} X m c
/-- Block `b` of device `c`'s result, holding what `f` says of it. -/
def oAt (c : Dev nD) (b : Fin 128) (f : Buf (Elt F) ((c : Thread nD τ).loc main_v1)) : sProp 𝕄 :=
  (oV b).view.loc (c : Thread nD τ) ↦[(oV b).view.set]{fullShare} f
/-- Slot `i` of device `c`'s receive buffer. -/
def rAt (c : Dev nD) (i : Fin 42) (f : Buf (Elt F) ((c : Thread nD τ).loc cc0_scratch0)) : sProp 𝕄 :=
  (slotV i).view.loc (c : Thread nD τ) ↦[(slotV i).view.set]{fullShare} f
/-- Share `q` of accumulator slot `s` of device `c`. -/
def vAt (c : Dev nD) (s : Fin 4) (q : PosShare TreeShare) (f : Buf (Elt F) ((c : Thread nD τ).loc cc0_scratch1)) : sProp 𝕄 :=
  (accV s).view.loc (c : Thread nD τ) ↦[(accV s).view.set]{q} f

omit [FloatOps F] in
theorem pts_storable {ℓ : Loc nD τ sig} (S : Finset (Idx ℓ)) (q : PosShare TreeShare) (f : Buf (Elt F) ℓ) :
    BI.Storable (upEmb : UEmb _ 𝕄) (ℓ ↦[S]{q} f : sProp 𝕄) := inferInstance
omit [FloatOps F] in
instance xAt_storable (c : Dev nD) (b h) : BI.Storable (upEmb : UEmb _ 𝕄) (xAt (F := F) m c b h) :=
  pts_storable (ℓ := (c : Thread nD τ).loc main_arg0) _ _ _
omit [FloatOps F] in
instance oAt_storable (c : Dev nD) (b f) : BI.Storable (upEmb : UEmb _ 𝕄) (oAt (F := F) c b f) :=
  pts_storable (ℓ := (c : Thread nD τ).loc main_v1) _ _ _
omit [FloatOps F] in
instance rAt_storable (c : Dev nD) (i f) : BI.Storable (upEmb : UEmb _ 𝕄) (rAt (F := F) c i f) :=
  pts_storable (ℓ := (c : Thread nD τ).loc cc0_scratch0) _ _ _
omit [FloatOps F] in
instance vAt_storable (c : Dev nD) (s q f) : BI.Storable (upEmb : UEmb _ 𝕄) (vAt (F := F) c s q f) :=
  pts_storable (ℓ := (c : Thread nD τ).loc cc0_scratch1) _ _ _

omit [FloatOps F] in
/-- The three shares an accumulator slot is read under: by the store, by the send across `y`, by the send across `z`. -/
theorem vAt_split (c : Dev nD) (s : Fin 4) (f) : (vAt (F := F) c s fullShare f)
    ⊣⊢ iprop(vAt c s fullShare.left f ∗ vAt c s fullShare.right.left f ∗ vAt c s fullShare.right.right f) := by
  unfold vAt
  exact (pointsTo_share (PosShare.mem_left_op_right fullShare)).trans
    (sep_congr_right (pointsTo_share (PosShare.mem_left_op_right fullShare.right)))

omit [FloatOps F] in
/-- A write of the block that `f` holds on a block of the result. -/
theorem oAt_write (c : Dev nD) (b : Fin 128) (f₀ f : Buf (Elt F) ((c : Thread nD τ).loc main_v1)) (w : FVec F S128x1024 .f32)
    (h : (oV b).view.read (Elt F) f = w) :
    ((oV b).view.loc (c : Thread nD τ) ↦[(oV b).view.set]{fullShare} (oV b).view.write (Elt F) f₀ w Finset.univ : sProp 𝕄) = oAt c b f :=
  pointsTo_congr (write_pts (oV b).view f₀ f w h)
omit [FloatOps F] in
theorem rAt_write (c : Dev nD) (i : Fin 42) (f₀ f : Buf (Elt F) ((c : Thread nD τ).loc cc0_scratch0)) (w : FVec F S128x1024 .f32)
    (h : (slotV i).view.read (Elt F) f = w) :
    ((slotV i).view.loc (c : Thread nD τ) ↦[(slotV i).view.set]{fullShare} (slotV i).view.write (Elt F) f₀ w Finset.univ : sProp 𝕄) = rAt c i f :=
  pointsTo_congr (write_pts (slotV i).view f₀ f w h)
omit [FloatOps F] in
theorem vAt_write (c : Dev nD) (s : Fin 4) (f₀ : Buf (Elt F) ((c : Thread nD τ).loc cc0_scratch1)) (w : FVec F S128x1024 .f32) :
    ((accV s).view.loc (c : Thread nD τ) ↦[(accV s).view.set]{fullShare} (accV s).view.write (Elt F) f₀ w Finset.univ : sProp 𝕄)
      = vAt c s fullShare (V c w) :=
  pointsTo_congr (write_pts (accV s).view f₀ (V c w) w (read_V c s w))

/-! ## A buffer is its blocks -/

omit [FloatOps F] in
/-- Ownership of a buffer, block by block: each element lies in the block `φ` names. -/
theorem pts_blocks {I : Type} [Fintype I] [DecidableEq I] {ℓ : Loc nD τ sig} (S : I → Finset (Idx ℓ)) (φ : Idx ℓ → I)
    (h : ∀ i y, y ∈ S i ↔ φ y = i) (q : PosShare TreeShare) (f : Buf (Elt F) ℓ) :
    (ℓ ↦{q} f : sProp 𝕄) = bigSep Finset.univ fun i => (ℓ ↦[S i]{q} f) := by
  rw [← pointsTo_biUnion Finset.univ S fun i _ j _ hij => Finset.disjoint_left.mpr fun y hy hy' =>
    hij (((h i y).mp hy).symm.trans ((h j y).mp hy'))]
  congr 1
  exact Finset.ext fun y => ⟨fun _ => Finset.mem_biUnion.mpr ⟨φ y, Finset.mem_univ _, (h _ y).mpr rfl⟩, fun _ => Finset.mem_univ _⟩

omit [FloatOps F] in
theorem x_blocks (c : Dev nD) : (((c : Thread nD τ).loc main_arg0) ↦{fullShare} X m c : sProp 𝕄)
    = bigSep Finset.univ fun b : Fin 128 => iprop(xAt m c b (oth c) ∗ xAt m c b (mine c)) := by
  rw [pts_blocks (ℓ := (c : Thread nD τ).loc main_arg0) (fun p : Fin 128 × Fin 2 => (xV p.1 p.2).view.set) xBlk mem_xV, bigSep_univ_prod]
  refine bigSep_congr fun b _ => ?_
  have h : (oth c = 0 ∧ mine c = 1) ∨ (oth c = 1 ∧ mine c = 0) := by revert c; decide
  rw [bigSep_univ_eq_bigSepL [0, 1] (by decide) (by decide)]
  rcases h with ⟨h, h'⟩ | ⟨h, h'⟩ <;> rw [h, h']
  · rfl
  · exact Idealize.SL.BI.Entails.antisymm BI.sep_comm BI.sep_comm
omit [FloatOps F] in
theorem o_blocks (c : Dev nD) (f : Buf (Elt F) ((c : Thread nD τ).loc main_v1)) : (((c : Thread nD τ).loc main_v1) ↦{fullShare} f : sProp 𝕄)
    = bigSep Finset.univ fun b : Fin 128 => oAt c b f :=
  pts_blocks (ℓ := (c : Thread nD τ).loc main_v1) (fun b => (oV b).view.set) oBlk mem_oV fullShare f
omit [FloatOps F] in
theorem r_blocks (c : Dev nD) (f : Buf (Elt F) ((c : Thread nD τ).loc cc0_scratch0)) : (((c : Thread nD τ).loc cc0_scratch0) ↦{fullShare} f : sProp 𝕄)
    = bigSep Finset.univ fun i : Fin 42 => rAt c i f :=
  pts_blocks (ℓ := (c : Thread nD τ).loc cc0_scratch0) (fun i => (slotV i).view.set) rBlk mem_slotV fullShare f
omit [FloatOps F] in
theorem v_blocks (c : Dev nD) (f : Buf (Elt F) ((c : Thread nD τ).loc cc0_scratch1)) : (((c : Thread nD τ).loc cc0_scratch1) ↦{fullShare} f : sProp 𝕄)
    = bigSep Finset.univ fun s : Fin 4 => vAt c s fullShare f :=
  pts_blocks (ℓ := (c : Thread nD τ).loc cc0_scratch1) (fun s => (accV s).view.set) vBlk mem_accV fullShare f
include m in
omit [FloatOps F] in
/-- The four accumulator slots, whatever each holds, are the buffer. -/
theorem v_join (c : Dev nD) : (bigSep Finset.univ fun s : Fin 4 => iprop(∃ f, vAt (F := F) c s fullShare f))
    ⊢ (iprop(∃ f : Buf (Elt F) ((c : Thread nD τ).loc cc0_scratch1), ((c : Thread nD τ).loc cc0_scratch1) ↦{fullShare} f) : sProp 𝕄) := by
  haveI : Nonempty (Buf (Elt F) ((c : Thread nD τ).loc cc0_scratch1)) := ⟨m _⟩
  iintro H
  ihave H := (BI.bigSep_exists_pi Finset.univ (fun (s : Fin 4) f => vAt (F := F) c s fullShare f)) $$ H
  icases H with ⟨%fs, H⟩
  iexists (fun y => fs (vBlk y) y)
  rw [v_blocks]
  refine bigSep_mono fun s _ => ?_
  have h : vAt (F := F) c s fullShare (fs s) = vAt c s fullShare (fun y => fs (vBlk y) y) := by
    unfold vAt
    exact pointsTo_congr (fun y hy => by rw [(mem_accV s y).mp hy])
  rw [h]; exact BI.Entails.refl _

end Cert.KernelIdeal.Body

end
-- ==== Proof.Protocol.lean ====
/- The kernel's protocol: its semaphores as cells, what each completed transfer hands over, the levels at which a
   device may wait, and what it owes.

   Every cell is used for one round. A barrier cell takes one unit from each of the three neighbours; every other cell
   the bytes of one transfer of one block. -/
module

public import proofs.«01_k».proof.Proof.Contents

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-! ## Cells -/

/-- The semaphores the devices signal one another through: the barrier, then the send and receive semaphores of the
    transfers across `x`, `y` and `z`. -/
inductive CK where
  | bar
  | xs (i : Fin 42) | xr (i : Fin 42)
  | ys (i : Fin 43) | yr (i : Fin 43)
  | zs (i : Fin 43) | zr (i : Fin 43)
  deriving DecidableEq

/-- The same as a sum of finite types. -/
abbrev CS : Type := Unit ⊕ (Fin 42 ⊕ (Fin 42 ⊕ (Fin 43 ⊕ (Fin 43 ⊕ (Fin 43 ⊕ Fin 43)))))
def CK.ofSum : CS → CK
  | .inl _ => .bar
  | .inr (.inl i) => .xs i
  | .inr (.inr (.inl i)) => .xr i
  | .inr (.inr (.inr (.inl i))) => .ys i
  | .inr (.inr (.inr (.inr (.inl i)))) => .yr i
  | .inr (.inr (.inr (.inr (.inr (.inl i))))) => .zs i
  | .inr (.inr (.inr (.inr (.inr (.inr i))))) => .zr i
def CK.toSum : CK → CS
  | .bar => .inl ()
  | .xs i => .inr (.inl i)
  | .xr i => .inr (.inr (.inl i))
  | .ys i => .inr (.inr (.inr (.inl i)))
  | .yr i => .inr (.inr (.inr (.inr (.inl i))))
  | .zs i => .inr (.inr (.inr (.inr (.inr (.inl i)))))
  | .zr i => .inr (.inr (.inr (.inr (.inr (.inr i)))))
def CK.sumEq : CS ≃ CK := ⟨CK.ofSum, CK.toSum, by rintro (_ | _ | _ | _ | _ | _ | _) <;> rfl, by rintro (_ | _ | _ | _ | _ | _ | _) <;> rfl⟩
instance : Fintype CK := Fintype.ofEquiv CS CK.sumEq

omit [FloatOps F] in
/-- A family over the cells, kind by kind. -/
theorem bigSep_CK (Φ : CK → sProp 𝕄) : bigSep Finset.univ Φ
    = iprop(Φ .bar ∗ (bigSep Finset.univ fun i => Φ (.xs i)) ∗ (bigSep Finset.univ fun i => Φ (.xr i))
        ∗ (bigSep Finset.univ fun i => Φ (.ys i)) ∗ (bigSep Finset.univ fun i => Φ (.yr i))
        ∗ (bigSep Finset.univ fun i => Φ (.zs i)) ∗ (bigSep Finset.univ fun i => Φ (.zr i))) := by
  rw [bigSep_univ_equiv CK.sumEq, bigSep_univ_sum, bigSep_univ_sum, bigSep_univ_sum, bigSep_univ_sum, bigSep_univ_sum, bigSep_univ_sum,
    bigSep_univ_eq_bigSepL [()] (by decide) (by decide), bigSepL_singleton]
  rfl

/-- The barrier semaphore. -/
abbrev barS : Sem sig := (SemArray.scalar (sig.barrier 0 rfl) : Sems sig S_).sem
/-- The semaphore of a cell. -/
def csem : CK → SemLoc sig
  | .bar => .reg barS
  | .xs i => .dma (xs i) | .xr i => .dma (xr i)
  | .ys i => .dma (ys i) | .yr i => .dma (yr i)
  | .zs i => .dma (zs i) | .zr i => .dma (zr i)
/-- Which cell a DMA semaphore is, by its number. -/
def decodeD (n : ℕ) : Option CK :=
  if h : n < 42 then some (.xs ⟨n, h⟩)
  else if h : n < 84 then some (.xr ⟨n - 42, by omega⟩)
  else if h : n < 127 then some (.ys ⟨n - 84, by omega⟩)
  else if h : n < 170 then some (.yr ⟨n - 127, by omega⟩)
  else if h : n < 213 then some (.zs ⟨n - 170, by omega⟩)
  else if h : n < 256 then some (.zr ⟨n - 213, by omega⟩)
  else none
/-- Which cell a semaphore is. -/
def decode : SemLoc sig → Option CK
  | .reg s => if s = barS then some .bar else none
  | .dma q => decodeD q.val
theorem decode_csem (k : CK) : decode (csem k) = some k := by
  cases k with
  | bar => decide
  | xs i => revert i; decide +kernel
  | xr i => revert i; decide +kernel
  | ys i => revert i; decide +kernel
  | yr i => revert i; decide +kernel
  | zs i => revert i; decide +kernel
  | zr i => revert i; decide +kernel
theorem decode_la (s : Fin 4) : decode (.dma (la s)) = none := by revert s; decide +kernel
theorem decode_st (s : Fin 4) : decode (.dma (st s)) = none := by revert s; decide +kernel
theorem csem_inj : Function.Injective csem := fun k k' h => Option.some.inj (by rw [← decode_csem k, h, decode_csem k'])

/-- Cell `k` of device `c`. -/
abbrev cell (c : Dev nD) (k : CK) : GSem nD τ sig := ((c : Thread nD τ), csem k)
theorem cell_eq_iff {c c' : Dev nD} {k k' : CK} : cell c k = cell c' k' ↔ c = c' ∧ k = k' :=
  ⟨fun h => ⟨Fin.ext (congrArg (fun g : GSem nD τ sig => g.1.1.val) h), csem_inj (congrArg Prod.snd h)⟩, fun h => by rw [h.1, h.2]⟩

/-- What one transfer of a block credits. -/
def N : ℕ := (slotV 0).view.dmaCredit
theorem N_pos : 0 < N := View.dmaCredit_pos _ (by decide)
theorem N_slot (i : Fin 42) : (slotV i).view.dmaCredit = N := rfl
theorem N_x (b : Fin 128) (h : Fin 2) : (xV b h).view.dmaCredit = N := rfl
theorem N_o (b : Fin 128) : (oV b).view.dmaCredit = N := rfl
theorem N_acc (s : Fin 4) : (accV s).view.dmaCredit = N := rfl

/-! ## What the transfers hand over -/

/-- What `y`- and `z`-neighbour give device `c` to write at the barrier: their blocks of the result. -/
def giveX (c : Dev nD) : sProp 𝕄 := iprop(∃ f, bigSep Finset.univ fun i : Fin 42 => rAt (F := F) (xp c) i f)
def giveY (c : Dev nD) : sProp 𝕄 :=
  iprop((bigSep Finset.univ fun j : Fin 32 => oAt (yp c) (ob c (q32 j)) (O0 m (yp c)))
    ∗ bigSep Finset.univ fun k : Fin 11 => oAt (yp c) (fyb c k) (O0 m (yp c)))
def giveZ (c : Dev nD) : sProp 𝕄 :=
  iprop((bigSep Finset.univ fun j : Fin 32 => oAt (zp c) (ob c (q32 j)) (O0 m (zp c)))
    ∗ bigSep Finset.univ fun k : Fin 11 => oAt (zp c) (fzb c k) (O0 m (zp c)))
/-- What a neighbour's signal hands over, by neighbour. -/
def barPay (c : Dev nD) (d : Fin 3) : sProp 𝕄 := if d = 0 then giveX c else if d = 1 then giveY m c else giveZ m c

/-- The chunk a semaphore across `y` or `z` belongs to: a chunk of the quadrant, or a forwarded one. -/
def yz (i : Fin 43) : Fin 32 ⊕ Fin 11 := if h : i.val < 32 then .inl ⟨i.val, h⟩ else .inr ⟨i.val - 32, by omega⟩
theorem yz_s32 (j : Fin 32) : yz (s32 j) = .inl j := by revert j; decide
theorem yz_f11 (k : Fin 11) : yz (f11 k) = .inr k := by revert k; decide

/-- The block device `c` has added as its chunk `i`. -/
def acc (c : Dev nD) (i : Fin 42) : FVec F S128x1024 .f32 := addBlk m c (ob c i)

/-- What is handed over at cell `k` of device `c` when its transfer completes. -/
def pay (c : Dev nD) : CK → sProp 𝕄
  | .bar => iprop(emp)
  | .xs i => xAt m c (ob c i) (oth c)
  | .xr i => rAt c i (R m c)
  | .ys i => Sum.elim (fun j => vAt c (slot (q32 j)) fullShare.right.left (V c (acc m c (q32 j)))) (fun k => oAt c (fyb c k) (O m c)) (yz i)
  | .yr i => Sum.elim (fun j => oAt c (ob (yp c) (q32 j)) (O m c)) (fun k => oAt c (fyb (yp c) k) (O m c)) (yz i)
  | .zs i => Sum.elim (fun j => vAt c (slot (q32 j)) fullShare.right.right (V c (acc m c (q32 j)))) (fun k => oAt c (fzb c k) (O m c)) (yz i)
  | .zr i => Sum.elim (fun j => oAt c (ob (zp c) (q32 j)) (O m c)) (fun k => oAt c (fzb (zp c) k) (O m c)) (yz i)

omit [FloatOps F] in
instance giveX_storable (c : Dev nD) : BI.Storable (upEmb : UEmb _ 𝕄) (giveX (F := F) c) := by unfold giveX; infer_instance
omit [FloatOps F] in
instance giveY_storable (c : Dev nD) : BI.Storable (upEmb : UEmb _ 𝕄) (giveY m c) := by unfold giveY; infer_instance
omit [FloatOps F] in
instance giveZ_storable (c : Dev nD) : BI.Storable (upEmb : UEmb _ 𝕄) (giveZ m c) := by unfold giveZ; infer_instance
omit [FloatOps F] in
instance barPay_storable (c : Dev nD) (d : Fin 3) : BI.Storable (upEmb : UEmb _ 𝕄) (barPay m c d) := by
  unfold barPay; (repeat' split) <;> infer_instance
instance pay_storable (c : Dev nD) (k : CK) : BI.Storable (upEmb : UEmb _ 𝕄) (pay m c k) := by
  cases k <;> simp only [pay] <;> first | infer_instance | (cases yz _ <;> simp only [Sum.elim_inl, Sum.elim_inr] <;> infer_instance)

/-! ## The schedule -/

/-- Round 0 of every cell: a barrier cell has three duties of one unit, any other the one duty of a block's credit. -/
def kRd : Rounds.Schedule (GSem nD τ sig) (Fin 3) 𝕄 where
  duties g r := if r = 0 ∧ g.1.2 = .tc then (match decode g.2 with | none => ∅ | some .bar => Finset.univ | some _ => {0}) else ∅
  unitless _ := False
  amount g _ _ := if decode g.2 = some .bar then 1 else N
  payload g _ d := match decode g.2 with | none => iprop(emp) | some k => if k = .bar then barPay m g.1.1 d else pay m g.1.1 k
  amount_pos g _ _ _ := by
    by_cases h : decode g.2 = some .bar
    · rw [if_pos h]; exact Nat.one_pos
    · rw [if_neg h]; exact N_pos

instance kRd_payload_storable (g : GSem nD τ sig) (r : ℕ) (d : Fin 3) : BI.Storable (upEmb : UEmb _ 𝕄) ((kRd m).payload g r d) := by
  show BI.Storable upEmb (match decode g.2 with | none => iprop(emp) | some k => if k = .bar then barPay m g.1.1 d else pay m g.1.1 k)
  (repeat' split) <;> infer_instance

theorem duties_later (g : GSem nD τ sig) : ∀ r, 1 ≤ r → (kRd m).duties g r = ∅ :=
  fun r hr => by dsimp only [kRd]; rw [if_neg fun h => by omega]
theorem duties_bar (c : Dev nD) : (kRd m).duties (cell c .bar) 0 = Finset.univ := by
  dsimp only [kRd]; rw [if_pos ⟨rfl, rfl⟩, decode_csem]
theorem duties_one (c : Dev nD) (k : CK) (hk : k ≠ .bar) : (kRd m).duties (cell c k) 0 = {0} := by
  dsimp only [kRd]; rw [if_pos ⟨rfl, rfl⟩, decode_csem]; cases k <;> first | rfl | exact absurd rfl hk
theorem amount_bar (c : Dev nD) (d : Fin 3) : (kRd m).amount (cell c .bar) 0 d = 1 := by
  dsimp only [kRd]; rw [if_pos (decode_csem _)]
theorem amount_one (c : Dev nD) (k : CK) (hk : k ≠ .bar) (d : Fin 3) : (kRd m).amount (cell c k) 0 d = N := by
  dsimp only [kRd]; rw [if_neg (fun h => hk (by rw [decode_csem] at h; exact Option.some.inj h))]
theorem expect_bar (c : Dev nD) : (kRd m).expect (cell c .bar) 0 = 3 := by
  unfold Schedule.expect Schedule.amountOf
  rw [duties_bar, Finset.sum_congr rfl fun d _ => amount_bar m c d, Finset.sum_const, Finset.card_univ, Fintype.card_fin, smul_eq_mul]
theorem expect_one (c : Dev nD) (k : CK) (hk : k ≠ .bar) : (kRd m).expect (cell c k) 0 = N := by
  unfold Schedule.expect Schedule.amountOf; rw [duties_one m c k hk, Finset.sum_singleton, amount_one m c k hk]
theorem payload_bar (c : Dev nD) (d : Fin 3) : (kRd m).payload (cell c .bar) 0 d = barPay m c d := by
  dsimp only [kRd]; rw [decode_csem]; exact if_pos rfl
theorem payload_one (c : Dev nD) (k : CK) (hk : k ≠ .bar) (d : Fin 3) : (kRd m).payload (cell c k) 0 d = pay m c k := by
  dsimp only [kRd]; rw [decode_csem]; exact if_neg hk
theorem rest_bar (c : Dev nD) : bigSep ((kRd m).duties (cell c .bar) 0 \ ∅) (fun d => (kRd m).payload (cell c .bar) 0 d)
    = iprop(giveX c ∗ giveY m c ∗ giveZ m c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_one (c : Dev nD) (k : CK) (hk : k ≠ .bar) :
    bigSep ((kRd m).duties (cell c k) 0 \ ∅) (fun d => (kRd m).payload (cell c k) 0 d) = pay m c k := by
  rw [Finset.sdiff_empty, duties_one m c k hk, bigSep_singleton, payload_one m c k hk]

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The receive semaphore of chunk `j` across `y` or `z` lies above that of the chunks before; a forwarded one above all. -/
def lvYZ (i : Fin 43) : ℕ := if i.val < 32 then 3 + i.val else 100
/-- The level of a cell: barrier, then the receive cells in the order they are waited for; all others at the bottom. -/
def lvC : Option CK → ℕ
  | some .bar => 1
  | some (.xr _) => 2
  | some (.yr i) => lvYZ i
  | some (.zr i) => lvYZ i
  | _ => 0
def lv (g : GSem nD τ sig) (_ : Unit) : ℕ := lvC (decode g.2)
theorem lv_cell (c : Dev nD) (k : CK) (u : Unit) : lv (cell c k) u = lvC (some k) := by unfold lv; rw [decode_csem]

/-- A debt owed only at cells above level `b` (and of TensorCores). -/
def Above (b : ℕ) (T : CellTallies nD τ sig Unit) : Prop := ∀ g u, 0 < T g u → g.1.2 = .tc ∧ b < lv g u
theorem above_zero (b : ℕ) : Above b 0 := fun g u h => absurd h (Nat.lt_irrefl 0)
theorem above_add {b : ℕ} {T T' : CellTallies nD τ sig Unit} (h : Above b T) (h' : Above b T') : Above b (T + T') := fun g u hg => by
  rw [Pi.add_apply, Finsupp.add_apply] at hg
  rcases Nat.eq_zero_or_pos (T g u) with h0 | h0
  · exact h' g u (by omega)
  · exact h g u h0
theorem above_tally {b : ℕ} (c : Dev nD) (k : CK) (n : ℕ) (h : b < lvC (some k)) : Above b (tallyAt (cell c k) () n) := fun g u hg => by
  rw [tallyAt_apply] at hg
  by_cases hh : g = cell c k ∧ u = ()
  · rw [hh.1]; exact ⟨rfl, by rw [lv_cell]; exact h⟩
  · rw [if_neg hh] at hg; exact absurd hg (Nat.lt_irrefl 0)
theorem above_sum {J : Type} {b : ℕ} {s : Finset J} {T : J → CellTallies nD τ sig Unit} (h : ∀ j ∈ s, Above b (T j)) : Above b (∑ j ∈ s, T j) := by
  classical
  induction s using Finset.induction_on with
  | empty => rw [Finset.sum_empty]; exact above_zero b
  | insert j s hj ih =>
    rw [Finset.sum_insert hj]
    exact above_add (h j (Finset.mem_insert_self _ _)) (ih fun i hi => h i (Finset.mem_insert_of_mem hi))

omit [FloatOps F] in
/-- A device may wait at a semaphore of level at most `b` while it owes only above `b`. -/
theorem mayWait (c : Dev nD) (sm : SemLoc sig) (b : ℕ) (T : CellTallies nD τ sig Unit) (hb : lvC (decode sm) ≤ b) (hT : Above b T) :
    (levAts L lv : sProp 𝕄) ⊢ MayWait (c : Thread nD τ) sm () T :=
  MayOwe.of_cut (L := L) (lev := lv) b (fun p hp => by rw [Finset.mem_singleton.mp hp, L_tc]; exact Finset.mem_singleton_self _)
    (fun g u hg => by unfold L; rw [if_pos (hT g u hg).1]; exact Finset.mem_singleton_self _)
    (fun p hp => by rw [Finset.mem_singleton.mp hp]; exact hb)
    (fun g u hg => (hT g u hg).2)

/-! ## What a device owes -/

/-- The transfers across `x` from chunk `n` on; -/
def Ox (c : Dev nD) (n : ℕ) : CellTallies nD τ sig Unit := ∑ i ∈ finFrom 42 n, tallyAt (cell (xp c) (.xr i)) () N
/-- those of the quadrant's chunks across `y`; -/
def Oy (c : Dev nD) (n : ℕ) : CellTallies nD τ sig Unit := ∑ j ∈ finFrom 32 n, tallyAt (cell (yp c) (.yr (s32 j))) () N
/-- across `z`; -/
def Oz (c : Dev nD) (n : ℕ) : CellTallies nD τ sig Unit := ∑ j ∈ finFrom 32 n, tallyAt (cell (zp c) (.zr (s32 j))) () N
/-- the third of a chunk. -/
def third (j : Fin 32) : Fin 11 := ⟨j.val / 3, by omega⟩
/-- What forwarding chunk `j` pays: across `z`, across `y`, or nothing. -/
def fwdDebt (c : Dev nD) (j : Fin 32) : CellTallies nD τ sig Unit :=
  if j.val % 3 = 0 then tallyAt (cell (zp c) (.zr (f11 (third j)))) () N
  else if j.val % 3 = 1 then tallyAt (cell (yp c) (.yr (f11 (third j)))) () N else 0
/-- The forwards from chunk `n` on. -/
def Of (c : Dev nD) (n : ℕ) : CellTallies nD τ sig Unit := ∑ j ∈ finFrom 32 n, fwdDebt c j
/-- What is owed in the main loop with `i` chunks sent and `n` forwarded. -/
def Om (c : Dev nD) (i n : ℕ) : CellTallies nD τ sig Unit := Of c n + Oz c i + Oy c i
/-- What is owed after the barrier's signals. -/
def O₁ (c : Dev nD) (n : ℕ) : CellTallies nD τ sig Unit := Om c 0 0 + Ox c n
/-- What a device owes at launch. -/
def O₀ (c : Dev nD) : CellTallies nD τ sig Unit :=
  O₁ c 0 + tallyAt (cell (zp c) .bar) () 1 + tallyAt (cell (yp c) .bar) () 1 + tallyAt (cell (xp c) .bar) () 1

theorem above_Ox (c : Dev nD) (n : ℕ) : Above 1 (Ox c n) := above_sum fun i _ => above_tally _ _ _ (by show 1 < 2; omega)
theorem lvYZ_s32 (j : Fin 32) : lvYZ (s32 j) = 3 + j.val := if_pos j.isLt
theorem lvYZ_f11 (k : Fin 11) : lvYZ (f11 k) = 100 := if_neg (by show ¬ 32 + k.val < 32; omega)
theorem above_Of (c : Dev nD) (n : ℕ) : Above 99 (Of c n) := above_sum fun j _ => by
  unfold fwdDebt
  split
  · exact above_tally _ _ _ (by show 99 < lvYZ _; rw [lvYZ_f11]; omega)
  split
  · exact above_tally _ _ _ (by show 99 < lvYZ _; rw [lvYZ_f11]; omega)
  · exact above_zero _
theorem above_Oy (c : Dev nD) (n : ℕ) : Above (2 + n) (Oy c n) := above_sum fun j hj =>
  above_tally _ _ _ (by show 2 + n < lvYZ _; rw [lvYZ_s32]; have := mem_finFrom.mp hj; omega)
theorem above_Oz (c : Dev nD) (n : ℕ) : Above (2 + n) (Oz c n) := above_sum fun j hj =>
  above_tally _ _ _ (by show 2 + n < lvYZ _; rw [lvYZ_s32]; have := mem_finFrom.mp hj; omega)
theorem Above.mono {b b' : ℕ} {T : CellTallies nD τ sig Unit} (h : Above b T) (hb : b' ≤ b) : Above b' T :=
  fun g u hg => ⟨(h g u hg).1, hb.trans_lt (h g u hg).2⟩
theorem above_Om (c : Dev nD) (i n : ℕ) (hi : i ≤ 90) : Above (2 + i) (Om c i n) :=
  above_add (above_add ((above_Of c n).mono (by omega)) (above_Oz c i)) (above_Oy c i)
theorem above_O₁ (c : Dev nD) (n : ℕ) : Above 1 (O₁ c n) := above_add ((above_Om c 0 0 (by omega)).mono (by omega)) (above_Ox c n)
theorem above_O₀ (c : Dev nD) : Above 0 (O₀ c) :=
  above_add (above_add (above_add ((above_O₁ c 0).mono (by omega)) (above_tally _ _ _ (by decide))) (above_tally _ _ _ (by decide)))
    (above_tally _ _ _ (by decide))

theorem Ox_succ (c : Dev nD) (i : Fin 42) : Ox c i.val = Ox c (i.val + 1) + tallyAt (cell (xp c) (.xr i)) () N := sum_finFrom_succ i.isLt _
theorem Oy_succ (c : Dev nD) (j : Fin 32) : Oy c j.val = Oy c (j.val + 1) + tallyAt (cell (yp c) (.yr (s32 j))) () N := sum_finFrom_succ j.isLt _
theorem Oz_succ (c : Dev nD) (j : Fin 32) : Oz c j.val = Oz c (j.val + 1) + tallyAt (cell (zp c) (.zr (s32 j))) () N := sum_finFrom_succ j.isLt _
theorem Of_succ (c : Dev nD) (j : Fin 32) : Of c j.val = Of c (j.val + 1) + fwdDebt c j := sum_finFrom_succ j.isLt _
theorem Oy_ge (c : Dev nD) (n : ℕ) (h : 32 ≤ n) : Oy c n = 0 := by unfold Oy; rw [finFrom_of_le h, Finset.sum_empty]
theorem Oz_ge (c : Dev nD) (n : ℕ) (h : 32 ≤ n) : Oz c n = 0 := by unfold Oz; rw [finFrom_of_le h, Finset.sum_empty]
theorem Of_ge (c : Dev nD) (n : ℕ) (h : 32 ≤ n) : Of c n = 0 := by unfold Of; rw [finFrom_of_le h, Finset.sum_empty]
theorem Ox_ge (c : Dev nD) (n : ℕ) (h : 42 ≤ n) : Ox c n = 0 := by unfold Ox; rw [finFrom_of_le h, Finset.sum_empty]

end Cert.KernelIdeal.Body

end
-- ==== Proof.Steps.lean ====
/- One lemma for each statement of the body: what it needs and what it leaves. -/
module

public import proofs.«01_k».proof.Proof.Protocol

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s TensorCore. -/
abbrev WP (c : Dev nD) (p : KProg F) (Q : PUnit → sProp 𝕄) : sProp 𝕄 :=
  wp frame (wpE (defs₀ (F := F)) 𝒱₀ (c : Thread nD τ) none) Set.univ p Q

/-- Device `c` owes `T`. -/
def ow (c : Dev nD) (T : CellTallies nD τ sig Unit) : sProp 𝕄 := iprop(∃ W, owes (c : Thread nD τ) T W)

/-- The facts every device may use: each cell's invariant, that each cell has reached its round, the levels. -/
def recs : sProp 𝕄 :=
  iprop(∃ K : Dev nD × CK → ℕ, (bigSep Finset.univ fun ck : Dev nD × CK => cellInv ER (kRd m) (K ck) (cell ck.1 ck.2))
    ∗ (bigSep Finset.univ fun ck : Dev nD × CK => reached ER (cell ck.1 ck.2) 0) ∗ levAts L lv)
instance recs_persistent : BI.Persistent (recs m) := by unfold recs; infer_instance

theorem recs_cell (c : Dev nD) (k : CK) : recs m ⊢ iprop(∃ κ, cellInv ER (kRd m) κ (cell c k) ∗ reached ER (cell c k) 0) := by
  unfold recs
  iintro ⟨%K, HI, HR, -⟩
  iexists (K (c, k))
  isplitl [HI]
  · iapply (bigSep_univ_elim (fun ck : Dev nD × CK => (cellInv ER (kRd m) (K ck) (cell ck.1 ck.2) : sProp 𝕄)) (c, k)); iexact HI
  · iapply (bigSep_univ_elim (fun ck : Dev nD × CK => (reached ER (cell ck.1 ck.2) 0 : sProp 𝕄)) (c, k)); iexact HR
theorem recs_lev : recs m ⊢ levAts L lv := by
  unfold recs
  iintro ⟨%K, -, -, H⟩
  iexact H

/-! ## Composing -/

/-- A statement, then the rest. -/
theorem seq {c : Dev nD} {P R : sProp 𝕄} {p : KProg F} {k : PUnit → KProg F} {Q : PUnit → sProp 𝕄} (h : P ⊢ WP c p (fun _ => R)) :
    P ⊢ iprop((R -∗ WP c (k ⟨⟩) Q) -∗ WP c (p >>= k) Q) := by
  unfold WP; rw [wp_bind]
  iintro HP HK
  ihave H := h $$ HP
  iapply (wp_wand frame _ Set.univ) $$ H
  iintro %a HR
  iapply HK; iexact HR
/-- The last statement. -/
theorem last {c : Dev nD} {P R : sProp 𝕄} {p : KProg F} {Q : PUnit → sProp 𝕄} (h : P ⊢ WP c p (fun _ => R)) :
    P ⊢ iprop((R -∗ Q ⟨⟩) -∗ WP c p Q) := by
  iintro HP HK
  ihave H := h $$ HP
  iapply (wp_wand frame _ Set.univ) $$ H
  iintro %a HR
  iapply HK; iexact HR
/-- A rule for an effect, as a statement's. -/
theorem of_rule {c : Dev nD} {P R : sProp 𝕄} {e : TpuEff nD τ sig (Elt F) Λ₀ .tc PUnit}
    (h : P ⊢ iprop((R -∗ WP c (Prog.ret ⟨⟩) (fun _ => R)) -∗ WP c (.op e Prog.ret) (fun _ => R))) :
    P ⊢ WP c (Prog.lift e) (fun _ => R) := by
  iintro HP
  iapply h $$ HP
  iintro HR
  unfold WP; rw [wp_ret]; imodintro; iexact HR

/-! ## The barrier -/

theorem t_signal (c c' : Dev nD) (d : Fin 3) (T : CellTallies nD τ sig Unit) :
    iprop(recs m ∗ ow c (T + tallyAt (cell c' .bar) () 1) ∗ dutyTok ER (cell c' .bar) 0 d ∗ barPay m c' d)
      ⊢ WP c (pSignal c') (fun _ => ow c T) := by
  refine of_rule ?_
  have hd : d ∈ (kRd m).duties (cell c' .bar) 0 := by rw [duties_bar]; exact Finset.mem_univ _
  have hP : (kRd m).payload ((c' : Thread nD τ), .reg barS) 0 d = barPay m c' d := payload_bar m c' d
  iintro ⟨#HR, HO, Ht, Hp⟩ Hk
  icases (recs_cell m c' .bar) $$ HR with ⟨%κ, #HI, #Hr⟩
  unfold ow
  icases HO with ⟨%W, HO⟩
  iapply (Rounds.wp_signal 𝒱₀ ER (kRd m) (c : Thread nD τ) none (dst := (c' : Thread nD τ)) (κ := κ) (r := 0)
      (d := d) hd ((amount_bar m c' d).trans (by decide)) () T rfl (W := W)) $$ [HO Ht Hp]
  · isplitr; · iexact HI
    isplitl [HO]; · iexact HO
    isplitl [Ht]; · iexact Ht
    isplitl [Hp]; · iapply (Entails.of_eq hP.symm); iexact Hp
    iexact Hr
  iintro HO
  iapply Hk; iexists W; iexact HO

theorem t_barWait (c : Dev nD) (T : CellTallies nD τ sig Unit) (hT : Above 1 T) :
    iprop(recs m ∗ cred (tallyAt (cell c .bar) () 3) ∗ ow c T ∗ atPos ER (cell c .bar) 0 ∅ 0)
      ⊢ WP c pBarWait (fun _ => iprop(ow c T ∗ semVal (cell c .bar) 0 ∗ giveX c ∗ giveY m c ∗ giveZ m c)) := by
  refine of_rule ?_
  iintro ⟨#HR, Hc, HO, Ha⟩ Hk
  icases (recs_cell m c .bar) $$ HR with ⟨%κ, #HI, #Hr⟩
  unfold ow
  icases HO with ⟨%W, HO⟩
  iapply (Rounds.wp_wait_rest_token 𝒱₀ ER (kRd m) (c : Thread nD τ) none (κ := κ)
      (wpE_semWait_eq 𝒱₀ (c : Thread nD τ) none Set.univ) (Set.mem_univ _) () (O := T) (W := W) (R := 0) (m := 0) (T := ∅)
      (expect_bar m c).symm) $$ [Hc HO Ha]
  · isplitr; · iexact HI
    isplitl [Hc]; · iexact Hc
    isplitl [HO]; · iexact HO
    isplitr
    · iapply (mayWait c (.reg barS) 1 T (le_of_eq (congrArg lvC (decode_csem .bar))) hT)
      iapply (recs_lev m); iexact HR
    iexact Ha
  iintro ⟨HO, Ha, -, Hp⟩
  imod (Rounds.cell_close ER (kRd m) (Set.mem_univ κ) (fun h => h) (R := 0 + 1) (duties_later m (cell c .bar))) $$ [Ha] with Hz
  · isplitr; · iexact HI
    iexact Ha
  iapply Hk
  isplitl [HO]; · iexists _; iexact HO
  isplitl [Hz]; · iexact Hz
  iapply (Entails.of_eq (rest_bar m c)); iexact Hp

/-! ## The cells of the transfers -/

/-- A wait at a cell for its transfer: what the transfer hands over. -/
theorem t_wait (c : Dev nD) (k : CK) (hk : k ≠ .bar) (T : CellTallies nD τ sig Unit) (b : ℕ) (hb : lvC (some k) ≤ b) (hT : Above b T)
    {sp sp' : Space} {s s' : Shape} {e e' : EltTy} {q : DmaSem sig}
    {src : Memref sig .tc sp' s' e'} {dst : Memref sig .tc sp s e} {h₁ : src.view.WordExact} {h₂ : dst.view.WordExact}
    (hq : csem k = .dma q) (hN : dst.view.dmaCredit = N) :
    iprop(recs m ∗ cred (tallyAt (cell c k) () N) ∗ ow c T ∗ atPos ER (cell c k) 0 ∅ 0)
      ⊢ WP c (Prog.lift (.waitDma2 q src dst h₁ h₂)) (fun _ => iprop(ow c T ∗ semVal (cell c k) 0 ∗ pay m c k)) := by
  refine of_rule ?_
  have hc : cell c k = ((c : Thread nD τ), .dma q) := by unfold cell; rw [hq]
  have hR := rest_one m c k hk
  have hI := recs_cell m c k
  have hE := expect_one m c k hk
  have hW := mayWait (F := F) c (csem k) b T (by rw [decode_csem]; exact hb) hT
  rw [hq] at hW
  rw [hc] at hR hI hE ⊢
  iintro ⟨#HR, Hc, HO, Ha⟩ Hk
  icases hI $$ HR with ⟨%κ, #HI, #Hr⟩
  unfold ow
  icases HO with ⟨%W, HO⟩
  iapply (Rounds.wp_wait_rest_token 𝒱₀ ER (kRd m) (c : Thread nD τ) none (κ := κ) (k' := N)
      (fun K => (wpE_waitDma2_eq 𝒱₀ (c : Thread nD τ) none Set.univ K).trans (by rw [hN])) (Set.mem_univ _) () (O := T) (W := W) (R := 0) (m := 0) (T := ∅)
      (by rw [hE, Nat.zero_add])) $$ [Hc HO Ha]
  · isplitr; · iexact HI
    isplitl [Hc]; · iexact Hc
    isplitl [HO]; · iexact HO
    isplitr
    · iapply hW
      iapply (recs_lev m); iexact HR
    iexact Ha
  iintro ⟨HO, Ha, -, Hp⟩
  imod (Rounds.cell_close ER (kRd m) (Set.mem_univ κ) (fun h => h) (R := 0 + 1) (duties_later m ((c : Thread nD τ), .dma q))) $$ [Ha] with Hz
  · isplitr; · iexact HI
    iexact Ha
  iapply Hk
  isplitl [HO]; · iexists _; iexact HO
  isplitl [Hz]; · iexact Hz
  iapply (Entails.of_eq hR); iexact Hp

/-- A transfer to device `c'`: the sender gives the source (the payload of its send cell) and the destination (rewritten,
    the payload of the receive cell); it keeps the right to wait for the send cell and owes one transfer less. -/
theorem t_send (c c' : Dev nD) (k₁ k₂ : CK) (hk₁ : k₁ ≠ .bar) (hk₂ : k₂ ≠ .bar) (T : CellTallies nD τ sig Unit)
    {sp sp' : Space} {s : Shape} {e : EltTy} {sS sR : DmaSem sig}
    {src : Memref sig .tc sp s e} {dst : Memref sig .tc sp' s e} {hsc : dst.view.ref.isScScratch = false}
    {h₁ : src.view.WordExact} {h₂ : dst.view.WordExact} {h₃ : DmaTarget.Typed sp (.dma sR) (.remote (Dev.tc c' : Thread nD τ) dst (.dma sS) hsc)}
    {q : PosShare TreeShare} (fs : Buf (Elt F) (src.view.loc (c : Thread nD τ))) (fd : Buf (Elt F) (dst.view.loc (c' : Thread nD τ)))
    (hS : csem k₁ = .dma sS) (hR : csem k₂ = .dma sR) (hN : dst.view.dmaCredit = N)
    {PS PD : sProp 𝕄} (eS : PS = (src.view.loc (c : Thread nD τ) ↦[src.view.set]{q} fs))
    (eD : PD = (dst.view.loc (c' : Thread nD τ) ↦[dst.view.set]{fullShare} fd))
    (hp₁ : PS = pay m c k₁)
    (hp₂ : (dst.view.loc (c' : Thread nD τ) ↦[dst.view.set]{fullShare} (dst.view.write (Elt F) fd (src.view.read (Elt F) fs) Finset.univ)) = pay m c' k₂) :
    iprop(recs m ∗ PS ∗ PD ∗ ow c (T + tallyAt (cell c' k₂) () N) ∗ dutyTok ER (cell c k₁) 0 0 ∗ dutyTok ER (cell c' k₂) 0 0)
      ⊢ WP c (Prog.lift (.enqueueDma src (.remote (Dev.tc c') dst (.dma sS) hsc) (.dma sR) h₁ h₂ h₃))
          (fun _ => iprop(cred (tallyAt (cell c k₁) () N) ∗ ow c T)) := by
  refine of_rule ?_
  have hc : cell c k₁ = ((c : Thread nD τ), .dma sS) := by unfold cell; rw [hS]
  have hc' : cell c' k₂ = ((c' : Thread nD τ), .dma sR) := by unfold cell; rw [hR]
  have hI := recs_cell m c k₁
  have hI' := recs_cell m c' k₂
  have hD := duties_one m c k₁ hk₁
  have hD' := duties_one m c' k₂ hk₂
  have hA := amount_one m c k₁ hk₁ 0
  have hA' := amount_one m c' k₂ hk₂ 0
  have hP := payload_one m c k₁ hk₁ 0
  have hP' := payload_one m c' k₂ hk₂ 0
  rw [hc] at hI hD hA hP
  rw [hc'] at hI' hD' hA' hP'
  rw [hc, hc', eD]
  rw [eS] at hp₁ ⊢
  iintro ⟨#HR, Hs, Hd, HO, Ht, Ht'⟩ Hk
  icases hI $$ HR with ⟨%κ, #HI, #Hr⟩
  icases hI' $$ HR with ⟨%κ', #HI', #Hr'⟩
  unfold ow
  icases HO with ⟨%W, HO⟩
  iapply (Rounds.wp_send_pointsTo 𝒱₀ ER (kRd m) (c : Thread nD τ) none (κ₁ := κ) (κ₂ := κ')
    (r₁ := 0) (r₂ := 0) (d₁ := 0) (d₂ := 0) (fs := fs) (fd := fd) (q := q) (sS := .dma sS) (sem := .dma sR)
    (by rw [hD]; exact Finset.mem_singleton_self _) (by rw [hD']; exact Finset.mem_singleton_self _)
    () () N hN hA hA' T rfl (W := W)
    (Entails.of_eq (hp₁.trans hP.symm)) (Entails.of_eq (hp₂.trans hP'.symm))) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-! ## The local transfers -/

/-- A local transfer: it is in flight, to deliver the destination rewritten and the source. -/
theorem t_local (c : Dev nD) {sp sp' : Space} {s : Shape} {e : EltTy} {q : DmaSem sig}
    {src : Memref sig .tc sp s e} {dst : Memref sig .tc sp' s e}
    {h₁ : src.view.WordExact} {h₂ : dst.view.WordExact} {h₃ : DmaTarget.Typed sp (.dma q) (DmaTarget.here (nD := nD) (p := (Proc.tc : Proc τ)) dst)}
    {qs : PosShare TreeShare} (fs : Buf (Elt F) (src.view.loc (c : Thread nD τ))) (fd : Buf (Elt F) (dst.view.loc (c : Thread nD τ)))
    (hN : dst.view.dmaCredit = N) {PS PD PD' : sProp 𝕄} (eS : PS = (src.view.loc (c : Thread nD τ) ↦[src.view.set]{qs} fs))
    (eD : PD = (dst.view.loc (c : Thread nD τ) ↦[dst.view.set]{fullShare} fd))
    (eD' : (dst.view.loc (c : Thread nD τ) ↦[dst.view.set]{fullShare} (dst.view.write (Elt F) fd (src.view.read (Elt F) fs) Finset.univ)) = PD') :
    iprop(PS ∗ PD ∗ semVal ((c : Thread nD τ), .dma q) 0)
      ⊢ WP c (Prog.lift (.enqueueDma src (.here dst) (.dma q) h₁ h₂ h₃))
          (fun _ => Flight EC (c : Thread nD τ) (.dma q) () N iprop(PD' ∗ PS)) := by
  refine of_rule ?_
  rw [eS, eD, ← eD']
  have hN' : dst.view.amount (.dma q) = N := hN
  exact wp_dmaLocal EC 𝒱₀ (c : Thread nD τ) none (via := .same) (sm := .dma q) (src := src) (dst := dst) (q := qs) (fs := fs) (fd := fd)
    (Sd := dst.view.set) () N hN' N_pos subset_rfl

/-- The wait for a local transfer. -/
theorem t_localWait (c : Dev nD) (T : CellTallies nD τ sig Unit) (hT : Above 0 T)
    {sp sp' : Space} {s s' : Shape} {e e' : EltTy} {q : DmaSem sig} (hq : decode (.dma q) = none)
    {src : Memref sig .tc sp' s' e'} {dst : Memref sig .tc sp s e} {h₁ : src.view.WordExact} {h₂ : dst.view.WordExact}
    (hN : dst.view.dmaCredit = N) (D : sProp 𝕄) :
    iprop(recs m ∗ Flight EC (c : Thread nD τ) (.dma q) () N D ∗ ow c T)
      ⊢ WP c (Prog.lift (.waitDma2 q src dst h₁ h₂)) (fun _ => iprop(D ∗ semVal ((c : Thread nD τ), .dma q) 0 ∗ ow c T)) := by
  refine of_rule ?_
  iintro ⟨#HR, HF, HO⟩ Hk
  unfold ow
  icases HO with ⟨%W, HO⟩
  iapply (wp_waitLocalO EC 𝒱₀ (c : Thread nD τ) none () hN (D := D) (O := T) (W := W)) $$ [HF HO]
  · isplitl [HF]; · iexact HF
    isplitl [HO]; · iexact HO
    iapply (mayWait c (.dma q) 0 T (le_of_eq (congrArg lvC hq)) hT)
    iapply (recs_lev m); iexact HR
  iintro ⟨HD, Hs, HO⟩
  iapply Hk
  isplitl [HD]; · iexact HD
  isplitl [Hs]; · iexact Hs
  iexists _; iexact HO

end Cert.KernelIdeal.Body

end
-- ==== Proof.Stmts.lean ====
/- The statements of the body, each with what it needs and what it leaves, in terms of the blocks of the buffers. -/
module

public import proofs.«01_k».proof.Proof.Steps
public import Idealize.ShloMosaic.Lib.Pipeline.Value

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-- Cell `k` of device `c`: the right to wait for its transfer, the device's place at it, the token of its one
    transfer, its counter at zero. -/
abbrev cr (c : Dev nD) (k : CK) : sProp 𝕄 := cred (tallyAt (cell c k) () N)
abbrev at0 (c : Dev nD) (k : CK) : sProp 𝕄 := atPos ER (cell c k) 0 ∅ 0
abbrev tk (c : Dev nD) (k : CK) : sProp 𝕄 := dutyTok ER (cell c k) 0 0
abbrev sv (c : Dev nD) (k : CK) : sProp 𝕄 := semVal (cell c k) 0
/-- The counter of a local load's semaphore, and of a local store's. -/
abbrev svLa (c : Dev nD) (s : Fin 4) : sProp 𝕄 := semVal ((c : Thread nD τ), .dma (la s)) 0
abbrev svSt (c : Dev nD) (s : Fin 4) : sProp 𝕄 := semVal ((c : Thread nD τ), .dma (st s)) 0
/-- The three shares of an accumulator slot: the local store reads one, the sends across `y` and `z` the others. -/
abbrev qst : PosShare TreeShare := fullShare.left
abbrev qy : PosShare TreeShare := fullShare.right.left
abbrev qz : PosShare TreeShare := fullShare.right.right

/-! ## Payloads -/

theorem pay_ys (c : Dev nD) (j : Fin 32) : pay m c (.ys (s32 j)) = vAt c (slot (q32 j)) qy (V c (acc m c (q32 j))) := by
  show Sum.elim _ _ (yz (s32 j)) = _; rw [yz_s32]; rfl
theorem pay_zs (c : Dev nD) (j : Fin 32) : pay m c (.zs (s32 j)) = vAt c (slot (q32 j)) qz (V c (acc m c (q32 j))) := by
  show Sum.elim _ _ (yz (s32 j)) = _; rw [yz_s32]; rfl
theorem pay_yr (c : Dev nD) (j : Fin 32) : pay m c (.yr (s32 j)) = oAt c (ob (yp c) (q32 j)) (O m c) := by
  show Sum.elim _ _ (yz (s32 j)) = _; rw [yz_s32]; rfl
theorem pay_zr (c : Dev nD) (j : Fin 32) : pay m c (.zr (s32 j)) = oAt c (ob (zp c) (q32 j)) (O m c) := by
  show Sum.elim _ _ (yz (s32 j)) = _; rw [yz_s32]; rfl
theorem pay_ysf (c : Dev nD) (k : Fin 11) : pay m c (.ys (f11 k)) = oAt c (fyb c k) (O m c) := by
  show Sum.elim _ _ (yz (f11 k)) = _; rw [yz_f11]; rfl
theorem pay_zsf (c : Dev nD) (k : Fin 11) : pay m c (.zs (f11 k)) = oAt c (fzb c k) (O m c) := by
  show Sum.elim _ _ (yz (f11 k)) = _; rw [yz_f11]; rfl
theorem pay_yrf (c : Dev nD) (k : Fin 11) : pay m c (.yr (f11 k)) = oAt c (fyb (yp c) k) (O m c) := by
  show Sum.elim _ _ (yz (f11 k)) = _; rw [yz_f11]; rfl
theorem pay_zrf (c : Dev nD) (k : Fin 11) : pay m c (.zr (f11 k)) = oAt c (fzb (zp c) k) (O m c) := by
  show Sum.elim _ _ (yz (f11 k)) = _; rw [yz_f11]; rfl

/-! ## Sends -/

theorem s_xsend (c : Dev nD) (i : Fin 42) (T : CellTallies nD τ sig Unit) (f : Buf (Elt F) ((xp c : Thread nD τ).loc cc0_scratch0)) :
    iprop(recs m ∗ xAt m c (ob c i) (oth c) ∗ rAt (xp c) i f ∗ ow c (T + tallyAt (cell (xp c) (.xr i)) () N)
        ∗ tk c (.xs i) ∗ tk (xp c) (.xr i))
      ⊢ WP c (pXSend c i) (fun _ => iprop(cr c (.xs i) ∗ ow c T)) := by
  have key : ∀ (v : Memref sig .tc .hbm S128x1024 .f32) (_ : v = xV (ob c i) (oth c)) {h₄ : (slotV i).view.ref.isScScratch = false} {h₁ : v.view.WordExact}
      {h₂ : (slotV i).view.WordExact} {h₃ : DmaTarget.Typed _ (.dma (xr i)) (.remote (Dev.tc (xp c) : Thread nD τ) (slotV i) (.dma (xs i)) h₄)},
      iprop(recs m ∗ xAt m c (ob c i) (oth c) ∗ rAt (xp c) i f ∗ ow c (T + tallyAt (cell (xp c) (.xr i)) () N)
        ∗ tk c (.xs i) ∗ tk (xp c) (.xr i))
      ⊢ WP c (Prog.lift (.enqueueDma v (.remote (Dev.tc (xp c)) (slotV i) (.dma (xs i)) h₄) (.dma (xr i)) h₁ h₂ h₃))
          (fun _ => iprop(cr c (.xs i) ∗ ow c T)) := by
    rintro v rfl h₁ h₂ h₃ h₄
    refine t_send m c (xp c) (.xs i) (.xr i) (by simp) (by simp) T (src := xV (ob c i) (oth c)) (dst := slotV i) (X m c) f rfl rfl (N_slot i) (PS := xAt m c (ob c i) (oth c))
      (PD := rAt (xp c) i f) rfl rfl rfl ?_
    refine rAt_write (xp c) i f (R m (xp c)) _ ?_
    rw [read_R, xp_xp, ob_xp, mine_xp]; rfl
  exact key _ (sendV_eq c i)

theorem s_ysend (c : Dev nD) (j : Fin 32) (T : CellTallies nD τ sig Unit) :
    iprop(recs m ∗ vAt c (slot (q32 j)) qy (V c (acc m c (q32 j))) ∗ oAt (yp c) (ob c (q32 j)) (O0 m (yp c))
        ∗ ow c (T + tallyAt (cell (yp c) (.yr (s32 j))) () N) ∗ tk c (.ys (s32 j)) ∗ tk (yp c) (.yr (s32 j)))
      ⊢ WP c (pYSend c j) (fun _ => iprop(cr c (.ys (s32 j)) ∗ ow c T)) := by
  have key : ∀ (v : Memref sig .tc .hbm S128x1024 .f32) (_ : v = oV (ob c (q32 j))) {h₄ : v.view.ref.isScScratch = false}
      {h₁ : (accV (slot (q32 j))).view.WordExact} {h₂ : v.view.WordExact}
      {h₃ : DmaTarget.Typed _ (.dma (yr (s32 j))) (.remote (Dev.tc (yp c) : Thread nD τ) v (.dma (ys (s32 j))) h₄)},
      iprop(recs m ∗ vAt c (slot (q32 j)) qy (V c (acc m c (q32 j))) ∗ oAt (yp c) (ob c (q32 j)) (O0 m (yp c))
        ∗ ow c (T + tallyAt (cell (yp c) (.yr (s32 j))) () N) ∗ tk c (.ys (s32 j)) ∗ tk (yp c) (.yr (s32 j)))
      ⊢ WP c (Prog.lift (.enqueueDma (accV (slot (q32 j))) (.remote (Dev.tc (yp c)) v (.dma (ys (s32 j))) h₄) (.dma (yr (s32 j))) h₁ h₂ h₃))
          (fun _ => iprop(cr c (.ys (s32 j)) ∗ ow c T)) := by
    rintro v rfl h₁ h₂ h₃ h₄
    refine t_send m c (yp c) (.ys (s32 j)) (.yr (s32 j)) (by simp) (by simp) T (src := accV (slot (q32 j))) (dst := oV (ob c (q32 j)))
      (V c (acc m c (q32 j))) (O0 m (yp c)) rfl rfl (N_o _)
      (PS := vAt c (slot (q32 j)) qy (V c (acc m c (q32 j)))) (PD := oAt (yp c) (ob c (q32 j)) (O0 m (yp c))) rfl rfl (pay_ys m c j).symm ?_
    rw [pay_yr, yp_yp]
    refine oAt_write (yp c) (ob c (q32 j)) (O0 m (yp c)) (O m (yp c)) _ ?_
    rw [read_O, srcDev_yp]
    exact (read_V c _ _).symm
  exact key _ (outV_eq c (q32 j))

theorem s_zsend (c : Dev nD) (j : Fin 32) (T : CellTallies nD τ sig Unit) :
    iprop(recs m ∗ vAt c (slot (q32 j)) qz (V c (acc m c (q32 j))) ∗ oAt (zp c) (ob c (q32 j)) (O0 m (zp c))
        ∗ ow c (T + tallyAt (cell (zp c) (.zr (s32 j))) () N) ∗ tk c (.zs (s32 j)) ∗ tk (zp c) (.zr (s32 j)))
      ⊢ WP c (pZSend c j) (fun _ => iprop(cr c (.zs (s32 j)) ∗ ow c T)) := by
  have key : ∀ (v : Memref sig .tc .hbm S128x1024 .f32) (_ : v = oV (ob c (q32 j))) {h₄ : v.view.ref.isScScratch = false}
      {h₁ : (accV (slot (q32 j))).view.WordExact} {h₂ : v.view.WordExact}
      {h₃ : DmaTarget.Typed _ (.dma (zr (s32 j))) (.remote (Dev.tc (zp c) : Thread nD τ) v (.dma (zs (s32 j))) h₄)},
      iprop(recs m ∗ vAt c (slot (q32 j)) qz (V c (acc m c (q32 j))) ∗ oAt (zp c) (ob c (q32 j)) (O0 m (zp c))
        ∗ ow c (T + tallyAt (cell (zp c) (.zr (s32 j))) () N) ∗ tk c (.zs (s32 j)) ∗ tk (zp c) (.zr (s32 j)))
      ⊢ WP c (Prog.lift (.enqueueDma (accV (slot (q32 j))) (.remote (Dev.tc (zp c)) v (.dma (zs (s32 j))) h₄) (.dma (zr (s32 j))) h₁ h₂ h₃))
          (fun _ => iprop(cr c (.zs (s32 j)) ∗ ow c T)) := by
    rintro v rfl h₁ h₂ h₃ h₄
    refine t_send m c (zp c) (.zs (s32 j)) (.zr (s32 j)) (by simp) (by simp) T (src := accV (slot (q32 j))) (dst := oV (ob c (q32 j)))
      (V c (acc m c (q32 j))) (O0 m (zp c)) rfl rfl (N_o _)
      (PS := vAt c (slot (q32 j)) qz (V c (acc m c (q32 j)))) (PD := oAt (zp c) (ob c (q32 j)) (O0 m (zp c))) rfl rfl (pay_zs m c j).symm ?_
    rw [pay_zr, zp_zp]
    refine oAt_write (zp c) (ob c (q32 j)) (O0 m (zp c)) (O m (zp c)) _ ?_
    rw [read_O, srcDev_zp]
    exact (read_V c _ _).symm
  exact key _ (outV_eq c (q32 j))

theorem s_fzsend (c : Dev nD) (k : Fin 11) (T : CellTallies nD τ sig Unit) :
    iprop(recs m ∗ oAt c (fzb c k) (O m c) ∗ oAt (zp c) (fzb c k) (O0 m (zp c))
        ∗ ow c (T + tallyAt (cell (zp c) (.zr (f11 k))) () N) ∗ tk c (.zs (f11 k)) ∗ tk (zp c) (.zr (f11 k)))
      ⊢ WP c (pFzSend c k) (fun _ => iprop(cr c (.zs (f11 k)) ∗ ow c T)) := by
  have key : ∀ (v : Memref sig .tc .hbm S128x1024 .f32) (_ : v = oV (fzb c k)) {h₄ : v.view.ref.isScScratch = false} {h₁ : v.view.WordExact}
      {h₂ : v.view.WordExact} {h₃ : DmaTarget.Typed _ (.dma (zr (f11 k))) (.remote (Dev.tc (zp c) : Thread nD τ) v (.dma (zs (f11 k))) h₄)},
      iprop(recs m ∗ oAt c (fzb c k) (O m c) ∗ oAt (zp c) (fzb c k) (O0 m (zp c))
        ∗ ow c (T + tallyAt (cell (zp c) (.zr (f11 k))) () N) ∗ tk c (.zs (f11 k)) ∗ tk (zp c) (.zr (f11 k)))
      ⊢ WP c (Prog.lift (.enqueueDma v (.remote (Dev.tc (zp c)) v (.dma (zs (f11 k))) h₄) (.dma (zr (f11 k))) h₁ h₂ h₃))
          (fun _ => iprop(cr c (.zs (f11 k)) ∗ ow c T)) := by
    rintro v rfl h₁ h₂ h₃ h₄
    refine t_send m c (zp c) (.zs (f11 k)) (.zr (f11 k)) (by simp) (by simp) T (src := oV (fzb c k)) (dst := oV (fzb c k)) (O m c) (O0 m (zp c)) rfl rfl (N_o _)
      (PS := oAt c (fzb c k) (O m c)) (PD := oAt (zp c) (fzb c k) (O0 m (zp c))) rfl rfl (pay_zsf m c k).symm ?_
    rw [pay_zrf, zp_zp]
    refine oAt_write (zp c) (fzb c k) (O0 m (zp c)) (O m (zp c)) _ ?_
    rw [read_O, srcDev_fz]
    exact (read_O m c _).symm
  exact key _ (fzV_eq c k)

theorem s_fysend (c : Dev nD) (k : Fin 11) (T : CellTallies nD τ sig Unit) :
    iprop(recs m ∗ oAt c (fyb c k) (O m c) ∗ oAt (yp c) (fyb c k) (O0 m (yp c))
        ∗ ow c (T + tallyAt (cell (yp c) (.yr (f11 k))) () N) ∗ tk c (.ys (f11 k)) ∗ tk (yp c) (.yr (f11 k)))
      ⊢ WP c (pFySend c k) (fun _ => iprop(cr c (.ys (f11 k)) ∗ ow c T)) := by
  have key : ∀ (v : Memref sig .tc .hbm S128x1024 .f32) (_ : v = oV (fyb c k)) {h₄ : v.view.ref.isScScratch = false} {h₁ : v.view.WordExact}
      {h₂ : v.view.WordExact} {h₃ : DmaTarget.Typed _ (.dma (yr (f11 k))) (.remote (Dev.tc (yp c) : Thread nD τ) v (.dma (ys (f11 k))) h₄)},
      iprop(recs m ∗ oAt c (fyb c k) (O m c) ∗ oAt (yp c) (fyb c k) (O0 m (yp c))
        ∗ ow c (T + tallyAt (cell (yp c) (.yr (f11 k))) () N) ∗ tk c (.ys (f11 k)) ∗ tk (yp c) (.yr (f11 k)))
      ⊢ WP c (Prog.lift (.enqueueDma v (.remote (Dev.tc (yp c)) v (.dma (ys (f11 k))) h₄) (.dma (yr (f11 k))) h₁ h₂ h₃))
          (fun _ => iprop(cr c (.ys (f11 k)) ∗ ow c T)) := by
    rintro v rfl h₁ h₂ h₃ h₄
    refine t_send m c (yp c) (.ys (f11 k)) (.yr (f11 k)) (by simp) (by simp) T (src := oV (fyb c k)) (dst := oV (fyb c k)) (O m c) (O0 m (yp c)) rfl rfl (N_o _)
      (PS := oAt c (fyb c k) (O m c)) (PD := oAt (yp c) (fyb c k) (O0 m (yp c))) rfl rfl (pay_ysf m c k).symm ?_
    rw [pay_yrf, yp_yp]
    refine oAt_write (yp c) (fyb c k) (O0 m (yp c)) (O m (yp c)) _ ?_
    rw [read_O, srcDev_fy]
    exact (read_O m c _).symm
  exact key _ (fyV_eq c k)

/-! ## Waits -/

theorem s_xrWait (c : Dev nD) (i : Fin 42) (T : CellTallies nD τ sig Unit) (hT : Above 2 T) :
    iprop(recs m ∗ cr c (.xr i) ∗ ow c T ∗ at0 c (.xr i))
      ⊢ WP c (pXrWait c i) (fun _ => iprop(ow c T ∗ sv c (.xr i) ∗ rAt c i (R m c))) :=
  t_wait m c (.xr i) (by simp) T 2 (le_refl 2) hT rfl rfl
theorem s_xsWait (c : Dev nD) (i : Fin 42) (T : CellTallies nD τ sig Unit) (hT : Above 0 T) :
    iprop(recs m ∗ cr c (.xs i) ∗ ow c T ∗ at0 c (.xs i))
      ⊢ WP c (pXsWait c i) (fun _ => iprop(ow c T ∗ sv c (.xs i) ∗ xAt m c (ob c i) (oth c))) :=
  t_wait m c (.xs i) (by simp) T 0 (le_refl 0) hT rfl rfl
theorem s_ysWait (c : Dev nD) (j : Fin 32) (T : CellTallies nD τ sig Unit) (hT : Above 0 T) :
    iprop(recs m ∗ cr c (.ys (s32 j)) ∗ ow c T ∗ at0 c (.ys (s32 j)))
      ⊢ WP c (pYsWait c j) (fun _ => iprop(ow c T ∗ sv c (.ys (s32 j)) ∗ vAt c (slot (q32 j)) qy (V c (acc m c (q32 j))))) := by
  rw [← pay_ys]; exact t_wait m c (.ys (s32 j)) (by simp) T 0 (le_refl 0) hT rfl rfl
theorem s_zsWait (c : Dev nD) (j : Fin 32) (T : CellTallies nD τ sig Unit) (hT : Above 0 T) :
    iprop(recs m ∗ cr c (.zs (s32 j)) ∗ ow c T ∗ at0 c (.zs (s32 j)))
      ⊢ WP c (pZsWait c j) (fun _ => iprop(ow c T ∗ sv c (.zs (s32 j)) ∗ vAt c (slot (q32 j)) qz (V c (acc m c (q32 j))))) := by
  rw [← pay_zs]; exact t_wait m c (.zs (s32 j)) (by simp) T 0 (le_refl 0) hT rfl rfl
theorem s_yrWait (c : Dev nD) (j : Fin 32) (T : CellTallies nD τ sig Unit) (hT : Above (3 + j.val) T) :
    iprop(recs m ∗ cr c (.yr (s32 j)) ∗ ow c T ∗ at0 c (.yr (s32 j)))
      ⊢ WP c (pYrWait c j) (fun _ => iprop(ow c T ∗ sv c (.yr (s32 j)) ∗ oAt c (ob (yp c) (q32 j)) (O m c))) := by
  rw [← pay_yr]; exact t_wait m c (.yr (s32 j)) (by simp) T _ (le_of_eq (lvYZ_s32 j)) hT rfl rfl
theorem s_zrWait (c : Dev nD) (j : Fin 32) (T : CellTallies nD τ sig Unit) (hT : Above (3 + j.val) T) :
    iprop(recs m ∗ cr c (.zr (s32 j)) ∗ ow c T ∗ at0 c (.zr (s32 j)))
      ⊢ WP c (pZrWait c j) (fun _ => iprop(ow c T ∗ sv c (.zr (s32 j)) ∗ oAt c (ob (zp c) (q32 j)) (O m c))) := by
  rw [← pay_zr]; exact t_wait m c (.zr (s32 j)) (by simp) T _ (le_of_eq (lvYZ_s32 j)) hT rfl rfl
theorem s_fzWaitS (c : Dev nD) (k : Fin 11) (T : CellTallies nD τ sig Unit) (hT : Above 0 T) :
    iprop(recs m ∗ cr c (.zs (f11 k)) ∗ ow c T ∗ at0 c (.zs (f11 k)))
      ⊢ WP c (pFzWaitS c k) (fun _ => iprop(ow c T ∗ sv c (.zs (f11 k)) ∗ oAt c (fzb c k) (O m c))) := by
  rw [← pay_zsf]; exact t_wait m c (.zs (f11 k)) (by simp) T 0 (le_refl 0) hT rfl rfl
theorem s_fzWaitR (c : Dev nD) (k : Fin 11) (T : CellTallies nD τ sig Unit) (hT : Above 100 T) :
    iprop(recs m ∗ cr c (.zr (f11 k)) ∗ ow c T ∗ at0 c (.zr (f11 k)))
      ⊢ WP c (pFzWaitR c k) (fun _ => iprop(ow c T ∗ sv c (.zr (f11 k)) ∗ oAt c (fzb (zp c) k) (O m c))) := by
  rw [← pay_zrf]; exact t_wait m c (.zr (f11 k)) (by simp) T _ (le_of_eq (lvYZ_f11 k)) hT rfl rfl
theorem s_fyWaitS (c : Dev nD) (k : Fin 11) (T : CellTallies nD τ sig Unit) (hT : Above 0 T) :
    iprop(recs m ∗ cr c (.ys (f11 k)) ∗ ow c T ∗ at0 c (.ys (f11 k)))
      ⊢ WP c (pFyWaitS c k) (fun _ => iprop(ow c T ∗ sv c (.ys (f11 k)) ∗ oAt c (fyb c k) (O m c))) := by
  rw [← pay_ysf]; exact t_wait m c (.ys (f11 k)) (by simp) T 0 (le_refl 0) hT rfl rfl
theorem s_fyWaitR (c : Dev nD) (k : Fin 11) (T : CellTallies nD τ sig Unit) (hT : Above 100 T) :
    iprop(recs m ∗ cr c (.yr (f11 k)) ∗ ow c T ∗ at0 c (.yr (f11 k)))
      ⊢ WP c (pFyWaitR c k) (fun _ => iprop(ow c T ∗ sv c (.yr (f11 k)) ∗ oAt c (fyb (yp c) k) (O m c))) := by
  rw [← pay_yrf]; exact t_wait m c (.yr (f11 k)) (by simp) T _ (le_of_eq (lvYZ_f11 k)) hT rfl rfl

/-! ## The local transfers -/

/-- The load of chunk `i` into its slot, in flight. -/
def FLa (c : Dev nD) (i : Fin 42) : sProp 𝕄 :=
  Flight EC (c : Thread nD τ) (.dma (la (slot i))) () N
    iprop(vAt c (slot i) fullShare (V c (xBlock m c (ob c i) (mine c))) ∗ xAt m c (ob c i) (mine c))
/-- The store of chunk `i` out of its slot, in flight. -/
def FSt (c : Dev nD) (i : Fin 42) : sProp 𝕄 :=
  Flight EC (c : Thread nD τ) (.dma (st (slot i))) () N
    iprop(oAt c (ob c i) (O m c) ∗ vAt c (slot i) qst (V c (acc m c i)))

theorem s_load (c : Dev nD) (i : Fin 42) (f : Buf (Elt F) ((c : Thread nD τ).loc cc0_scratch1)) :
    iprop(xAt m c (ob c i) (mine c) ∗ vAt c (slot i) fullShare f ∗ svLa c (slot i)) ⊢ WP c (pLoad c i) (fun _ => FLa m c i) := by
  have key : ∀ (v : Memref sig .tc .hbm S128x1024 .f32) (_ : v = xV (ob c i) (mine c)) {h₁ : v.view.WordExact}
      {h₂ : (accV (slot i)).view.WordExact} {h₃ : DmaTarget.Typed _ (.dma (la (slot i))) (DmaTarget.here (nD := nD) (p := (Proc.tc : Proc τ)) (accV (slot i)))},
      iprop(xAt m c (ob c i) (mine c) ∗ vAt c (slot i) fullShare f ∗ svLa c (slot i))
        ⊢ WP c (Prog.lift (.enqueueDma v (.here (accV (slot i))) (.dma (la (slot i))) h₁ h₂ h₃)) (fun _ => FLa m c i) := by
    rintro v rfl h₁ h₂ h₃
    exact t_local c (src := xV (ob c i) (mine c)) (dst := accV (slot i)) (X m c) f (N_acc _) (PS := xAt m c (ob c i) (mine c)) (PD := vAt c (slot i) fullShare f)
      (PD' := vAt c (slot i) fullShare (V c (xBlock m c (ob c i) (mine c)))) rfl rfl (vAt_write c (slot i) f _)
  exact key _ (loadV_eq c i)
theorem s_store (c : Dev nD) (i : Fin 42) :
    iprop(vAt c (slot i) qst (V c (acc m c i)) ∗ oAt c (ob c i) (O0 m c) ∗ svSt c (slot i)) ⊢ WP c (pStore c i) (fun _ => FSt m c i) := by
  have key : ∀ (v : Memref sig .tc .hbm S128x1024 .f32) (_ : v = oV (ob c i)) {h₁ : (accV (slot i)).view.WordExact}
      {h₂ : v.view.WordExact} {h₃ : DmaTarget.Typed _ (.dma (st (slot i))) (DmaTarget.here (nD := nD) (p := (Proc.tc : Proc τ)) v)},
      iprop(vAt c (slot i) qst (V c (acc m c i)) ∗ oAt c (ob c i) (O0 m c) ∗ svSt c (slot i))
        ⊢ WP c (Prog.lift (.enqueueDma (accV (slot i)) (.here v) (.dma (st (slot i))) h₁ h₂ h₃)) (fun _ => FSt m c i) := by
    rintro v rfl h₁ h₂ h₃
    refine t_local c (src := accV (slot i)) (dst := oV (ob c i)) (V c (acc m c i)) (O0 m c) (N_o _) (PS := vAt c (slot i) qst (V c (acc m c i))) (PD := oAt c (ob c i) (O0 m c))
      (PD' := oAt c (ob c i) (O m c)) rfl rfl (oAt_write c (ob c i) (O0 m c) (O m c) _ ?_)
    rw [read_O, srcDev_own]
    exact (read_V c _ _).symm
  exact key _ (outV_eq c i)
theorem s_laWait (c : Dev nD) (i : Fin 42) (T : CellTallies nD τ sig Unit) (hT : Above 0 T) :
    iprop(recs m ∗ FLa m c i ∗ ow c T)
      ⊢ WP c (pLaWait c i) (fun _ => iprop((vAt c (slot i) fullShare (V c (xBlock m c (ob c i) (mine c))) ∗ xAt m c (ob c i) (mine c))
          ∗ svLa c (slot i) ∗ ow c T)) :=
  t_localWait m c T hT (decode_la (slot i)) (dst := accV (slot i)) (N_acc _) _
theorem s_stWait (c : Dev nD) (i : Fin 42) (T : CellTallies nD τ sig Unit) (hT : Above 0 T) :
    iprop(recs m ∗ FSt m c i ∗ ow c T)
      ⊢ WP c (pStWait c i) (fun _ => iprop((oAt c (ob c i) (O m c) ∗ vAt c (slot i) qst (V c (acc m c i))) ∗ svSt c (slot i) ∗ ow c T)) :=
  t_localWait m c T hT (decode_st (slot i)) (dst := outV c i) rfl _

/-! ## The sum -/

omit [FloatOps F] in
/-- A load of a slot, its leading axis dropped, reads what the slot's view reads. -/
theorem readAt_acc (s : Fin 4) (f : (cc0_scratch1 : Ref sig .tc).ty.Contents (Elt F)) :
    shapeCast S128x1024 (vM.view.readAt (Elt F) (accR s).toLoadRect f : Vec F S1x128x1024 .f32) shapeCasts_S1x128x1024_S128x1024
      = (accV s).view.read (Elt F) f := rfl
omit [FloatOps F] in
/-- Through the slot's rectangle, contents `V c g` read as the block `g` with a leading axis of one. -/
theorem read_access_V (c : Dev nD) (s : Fin 4) (g : FVec F S128x1024 .f32) :
    (vM.access (accR s) : View sig .tc _ _ _).read (Elt F) (V c g) = shapeCast S1x128x1024 g shapeCasts_S128x1024_S1x128x1024 := by
  have h := congrArg (fun w => shapeCast S1x128x1024 w shapeCasts_S128x1024_S1x128x1024) ((readAt_acc s (V c g)).trans (read_V c s g))
  refine Eq.trans ?_ h
  exact (shapeCast_shapeCast _ _ _).symm.trans rfl

theorem s_sum (c : Dev nD) (i : Fin 42) :
    iprop(vAt c (slot i) fullShare (V c (xBlock m c (ob c i) (mine c))) ∗ rAt c i (R m c))
      ⊢ WP c (pSum i) (fun _ => iprop(vAt c (slot i) fullShare (V c (acc m c i)) ∗ rAt c i (R m c))) := by
  have ev : ∀ f : Buf (Elt F) ((c : Thread nD τ).loc cc0_scratch1),
      vAt c (slot i) fullShare f = (vM.view.loc (c : Thread nD τ) ↦[(accV (slot i)).view.set]{fullShare} f : sProp 𝕄) := fun _ => rfl
  have er : rAt c i (R m c) = (rM.view.loc (c : Thread nD τ) ↦[(slotV i).view.set]{fullShare} R m c : sProp 𝕄) := rfl
  have hv : vM.view.setOn (accR (slot i)).toLoadRect.set ⊆ (accV (slot i)).view.set := by
    rw [accV_set]; exact subset_of_eq ((View.set_slice vM.view (accR (slot i))).symm.trans (View.set_slice_whole cc0_scratch1 _))
  have hr : rM.view.setOn (slotR i).toLoadRect.set ⊆ (slotV i).view.set :=
    subset_of_eq (View.set_slice rM.view (slotR i)).symm
  have hw : (vM.access (accR (slot i)) : View sig .tc _ _ _).setOn Finset.univ ⊆ (accV (slot i)).view.set := by
    rw [accV_set]; exact subset_of_eq (View.set_slice_whole cc0_scratch1 _)
  have hval : (vM.access (accR (slot i)) : View sig .tc _ _ _).read (Elt F) (V c (acc m c i))
      = sumPay (vM.view.readAt (Elt F) (accR (slot i)).toLoadRect (V c (xBlock m c (ob c i) (mine c))))
          (rM.view.readAt (Elt F) (slotR i).toLoadRect (R m c)) := by
    rw [read_access_V]
    have h₁ : xBlock m c (ob c i) (mine c) = shapeCast S128x1024
        (vM.view.readAt (Elt F) (accR (slot i)).toLoadRect (V c (xBlock m c (ob c i) (mine c))) : Vec F S1x128x1024 .f32)
          shapeCasts_S1x128x1024_S128x1024 := (read_V c (slot i) _).symm
    have h₂ : xBlock m (xp c) (ob c i) (mine c) = rM.view.readAt (Elt F) (slotR i).toLoadRect (R m c) := (read_R m c i).symm
    exact congrArg₂ (fun v w => shapeCast S1x128x1024 (addf v w) shapeCasts_S128x1024_S1x128x1024) h₁ h₂
  have hstep : ∀ j ∈ (accV (slot i)).view.set,
      (vM.access (accR (slot i)) : View sig .tc _ _ _).write (Elt F) (V c (xBlock m c (ob c i) (mine c)))
        (sumPay (vM.view.readAt (Elt F) (accR (slot i)).toLoadRect (V c (xBlock m c (ob c i) (mine c))))
          (rM.view.readAt (Elt F) (slotR i).toLoadRect (R m c))) Finset.univ j = V c (acc m c i) j := fun j hj =>
    write_pts (vM.access (accR (slot i))) _ (V c (acc m c i)) _ hval j
      (by
      rw [accV_set] at hj
      have e : (vM.access (accR (slot i)) : View sig .tc _ _ _).set = (accR (slot i)).set := View.set_slice_whole cc0_scratch1 _
      rw [e]; exact hj)
  rw [ev, ev, er]
  iintro ⟨Hv, Hr⟩
  unfold WP pSum
  simp only [Prog.lift, Prog.bind_op, Prog.bind_ret]
  iapply (wp_load 𝒱₀ (c : Thread nD τ) none Set.univ (m := vM) (S := (accV (slot i)).view.set) hv) $$ Hv; iintro Hv
  iapply (wp_load 𝒱₀ (c : Thread nD τ) none Set.univ (m := rM) (S := (slotV i).view.set) hr) $$ Hr; iintro Hr
  iapply (wp_load 𝒱₀ (c : Thread nD τ) none Set.univ (m := vM) (S := (accV (slot i)).view.set) hv) $$ Hv; iintro Hv
  iapply (wp_store 𝒱₀ (c : Thread nD τ) none Set.univ (m := vM) (r := accR (slot i)) (Mk := Finset.univ) (S := (accV (slot i)).view.set)
    hw) $$ Hv; iintro Hv
  rw [wp_ret]; imodintro
  isplitl [Hv]
  · iapply (Entails.of_eq (pointsTo_congr hstep)); iexact Hv
  · iexact Hr

end Cert.KernelIdeal.Body

end
-- ==== Proof.Turn.lean ====
/- One turn of the main loop, in its four parts: free the slot, make the chunk, send it on, forward what arrived. -/
module

public import proofs.«01_k».proof.Proof.Stmts

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-! ## Loops -/

/-- A loop keeps an invariant that each turn carries one step on. -/
theorem loop_rule {c : Dev nD} {n : ℕ} (f : Fin n → KProg F) (Inv : ℕ → sProp 𝕄)
    (h : ∀ i : Fin n, iprop(recs m ∗ Inv i.val) ⊢ WP c (f i) (fun _ => Inv (i.val + 1))) {k : KProg F} {Q : PUnit → sProp 𝕄} :
    iprop(recs m ∗ Inv 0) ⊢ iprop((Inv n -∗ WP c k Q) -∗ WP c (loop (at_ f) n 0 k) Q) := by
  have key : ∀ r i : ℕ, i + r = n → iprop(recs m ∗ Inv i) ⊢ iprop((Inv n -∗ WP c k Q) -∗ WP c (loop (at_ f) r i k) Q) := by
    intro r
    induction r with
    | zero =>
      intro i hi
      obtain rfl : i = n := by omega
      iintro ⟨_, H⟩ HK
      iapply HK; iexact H
    | succ r ih =>
      intro i hi
      have hlt : i < n := by omega
      have e : at_ f i = f ⟨i, hlt⟩ := dif_pos hlt
      show _ ⊢ iprop(_ -∗ WP c (at_ f i >>= fun _ => loop (at_ f) r (i + 1) k) Q)
      rw [e]
      iintro ⟨#HR, H⟩ HK
      iapply (seq (h ⟨i, hlt⟩)) $$ [H]
      · iclose
      iintro H
      iapply (ih (i + 1) (by omega)) $$ [H] [HK]
      · iclose
      · iexact HK
  exact key n 0 (by omega)

/-- A loop whose turns each change their own part, a shared part staying. -/
theorem loop_map {c : Dev nD} {n : ℕ} (f : Fin n → KProg F) (S : sProp 𝕄) (A B : Fin n → sProp 𝕄)
    (h : ∀ i : Fin n, iprop(recs m ∗ S ∗ A i) ⊢ WP c (f i) (fun _ => iprop(S ∗ B i))) {k : KProg F} {Q : PUnit → sProp 𝕄} :
    iprop(recs m ∗ S ∗ bigSep Finset.univ A)
      ⊢ iprop((S ∗ bigSep Finset.univ B -∗ WP c k Q) -∗ WP c (loop (at_ f) n 0 k) Q) := by
  have hstep : ∀ i : Fin n, iprop(recs m ∗ (S ∗ bigSep (finFrom n i.val) A ∗ bigSep (finUpTo n i.val) B))
      ⊢ WP c (f i) (fun _ => iprop(S ∗ bigSep (finFrom n (i.val + 1)) A ∗ bigSep (finUpTo n (i.val + 1)) B)) := by
    intro i
    rw [bigSep_finUpTo_succ i.isLt, bigSep_finFrom_succ i.isLt]
    iintro ⟨#HR, HS, ⟨Hi, HA⟩, HB⟩
    iapply (last (h i)) $$ [HS Hi]
    · iclose
    iintro ⟨HS, Hi⟩
    iclose
  iintro ⟨#HR, HS, HA⟩ HK
  iapply (loop_rule m f (fun i => iprop(S ∗ bigSep (finFrom n i) A ∗ bigSep (finUpTo n i) B)) hstep) $$ [HS HA] [HK]
  · irwh [← bigSep_finFrom_zero] at HA
    isplitr; · iexact HR
    isplitl [HS]; · iexact HS
    isplitl [HA]; · iexact HA
    rw [bigSep_finUpTo_zero]; iempintro
  · iintro ⟨HS, _, HB⟩
    irwh [bigSep_finUpTo_self] at HB
    iapply HK; iclose
/-! ## What each part of a turn needs and leaves -/

/-- Chunk `i` before its turn: the device's part of the input, its place in the result, the wait for the neighbour's part. -/
def Chunk (c : Dev nD) (i : Fin 42) : sProp 𝕄 :=
  iprop(xAt m c (ob c i) (mine c) ∗ oAt c (ob c i) (O0 m c) ∗ cr c (.xr i) ∗ at0 c (.xr i))
/-- … and after it. -/
def ChunkDone (c : Dev nD) (i : Fin 42) : sProp 𝕄 :=
  iprop(xAt m c (ob c i) (mine c) ∗ sv c (.xr i) ∗ rAt c i (R m c))
/-- A free accumulator slot. -/
def Free (c : Dev nD) (s : Fin 4) : sProp 𝕄 := iprop((∃ f, vAt c s fullShare f) ∗ svSt c s)
/-- The two shares of chunk `i`'s slot that the sends take. -/
def Halves (c : Dev nD) (i : Fin 42) : sProp 𝕄 :=
  iprop(vAt c (slot i) qy (V c (acc m c i)) ∗ vAt c (slot i) qz (V c (acc m c i)))
/-- What sending chunk `j` across `y` and `z` takes. -/
def Direct (c : Dev nD) (j : Fin 32) : sProp 𝕄 :=
  iprop((oAt (yp c) (ob c (q32 j)) (O0 m (yp c)) ∗ tk c (.ys (s32 j)) ∗ tk (yp c) (.yr (s32 j)) ∗ at0 c (.ys (s32 j)))
    ∗ (oAt (zp c) (ob c (q32 j)) (O0 m (zp c)) ∗ tk c (.zs (s32 j)) ∗ tk (zp c) (.zr (s32 j)) ∗ at0 c (.zs (s32 j))))
/-- The two sends of chunk `j`, in flight. -/
def Sent (c : Dev nD) (j : Fin 32) : sProp 𝕄 :=
  iprop((cr c (.ys (s32 j)) ∗ at0 c (.ys (s32 j))) ∗ (cr c (.zs (s32 j)) ∗ at0 c (.zs (s32 j))))
/-- … and done. -/
def SentDone (c : Dev nD) (j : Fin 32) : sProp 𝕄 := iprop(sv c (.ys (s32 j)) ∗ sv c (.zs (s32 j)))
/-- Chunk `i` with its store in flight, and its sends, if it has any. -/
def Flying (c : Dev nD) (i : Fin 42) : sProp 𝕄 :=
  iprop(FSt m c i ∗ if h : i.val < 32 then Sent c ⟨i.val, h⟩ else Halves m c i)
/-- What forwarding the `k`-th block across `z`, or across `y`, takes besides the arrival. -/
def FzNeed (c : Dev nD) (k : Fin 11) : sProp 𝕄 :=
  iprop(oAt (zp c) (fzb c k) (O0 m (zp c)) ∗ tk c (.zs (f11 k)) ∗ tk (zp c) (.zr (f11 k)))
def FyNeed (c : Dev nD) (k : Fin 11) : sProp 𝕄 :=
  iprop(oAt (yp c) (fyb c k) (O0 m (yp c)) ∗ tk c (.ys (f11 k)) ∗ tk (yp c) (.yr (f11 k)))
/-- Something for the chunks of remainder `r` modulo three only. -/
def onMod (r : ℕ) (A : Fin 32 → sProp 𝕄) (j : Fin 32) : sProp 𝕄 := if j.val % 3 = r then A j else iprop(emp)
/-- Something for the chunks of any other remainder. -/
def offMod (r : ℕ) (A : Fin 32 → sProp 𝕄) (j : Fin 32) : sProp 𝕄 := if j.val % 3 = r then iprop(emp) else A j
/-- The waits for chunk `j`'s arrival across `y` and across `z`. -/
def arrY (c : Dev nD) (j : Fin 32) : sProp 𝕄 := iprop(cr c (.yr (s32 j)) ∗ at0 c (.yr (s32 j)))
def arrZ (c : Dev nD) (j : Fin 32) : sProp 𝕄 := iprop(cr c (.zr (s32 j)) ∗ at0 c (.zr (s32 j)))
/-- Forwarding chunk `j`, before … -/
def Fwd (c : Dev nD) (j : Fin 32) : sProp 𝕄 :=
  iprop((onMod 0 (arrY c) j ∗ onMod 0 (fun j => FzNeed m c (third j)) j) ∗ (onMod 1 (arrZ c) j ∗ onMod 1 (fun j => FyNeed m c (third j)) j))
/-- … and after. -/
def FwdDone (c : Dev nD) (j : Fin 32) : sProp 𝕄 :=
  iprop((onMod 0 (fun j => sv c (.yr (s32 j))) j ∗ onMod 0 (fun j => cr c (.zs (f11 (third j)))) j)
    ∗ (onMod 1 (fun j => sv c (.zr (s32 j))) j ∗ onMod 1 (fun j => cr c (.ys (f11 (third j)))) j))

omit [FloatOps F] in
theorem onMod_pos {r : ℕ} {A : Fin 32 → sProp 𝕄} {j : Fin 32} (h : j.val % 3 = r) : onMod r A j = A j := if_pos h
omit [FloatOps F] in
theorem onMod_neg {r : ℕ} {A : Fin 32 → sProp 𝕄} {j : Fin 32} (h : j.val % 3 ≠ r) : onMod r A j = iprop(emp) := if_neg h
omit [FloatOps F] in
theorem offMod_pos {r : ℕ} {A : Fin 32 → sProp 𝕄} {j : Fin 32} (h : j.val % 3 = r) : offMod r A j = iprop(emp) := if_pos h
omit [FloatOps F] in
theorem offMod_neg {r : ℕ} {A : Fin 32 → sProp 𝕄} {j : Fin 32} (h : j.val % 3 ≠ r) : offMod r A j = A j := if_neg h

/-! ## The parts -/

theorem pure_spec {c : Dev nD} {P : sProp 𝕄} : P ⊢ WP (F := F) c (pure ⟨⟩) (fun _ => P) := by
  show _ ⊢ WP c (Prog.ret ⟨⟩) _
  unfold WP; rw [wp_ret]
  iintro H; imodintro; iexact H

/-- The store of a chunk has landed. -/
theorem store_done (c : Dev nD) (i : Fin 42) (T : CellTallies nD τ sig Unit) (hT : Above 0 T) :
    iprop(recs m ∗ FSt m c i ∗ Halves m c i ∗ ow c T)
      ⊢ WP c (pStWait c i) (fun _ => iprop(Free c (slot i) ∗ oAt c (ob c i) (O m c) ∗ ow c T)) := by
  unfold Halves Free
  iintro ⟨#HR, HF, ⟨Hy, Hz⟩, HO⟩
  iapplyF (last (s_stWait m c i T hT))
  iintro ⟨⟨Ho, Hv⟩, Hs, HO⟩
  ihave Hv := (vAt_split c (slot i) (V c (acc m c i))).2 $$ [Hv Hy Hz]
  · iclose
  iclose

theorem turnB_spec (c : Dev nD) (i : Fin 42) (T : CellTallies nD τ sig Unit) (hT : Above 2 T) :
    iprop(recs m ∗ Chunk m c i ∗ Free c (slot i) ∗ svLa c (slot i) ∗ ow c T)
      ⊢ WP c (turnB c i) (fun _ => iprop(ChunkDone m c i ∗ FSt m c i ∗ Halves m c i ∗ svLa c (slot i) ∗ ow c T)) := by
  unfold Chunk Free turnB ChunkDone Halves
  iintro ⟨#HR, ⟨Hx, Ho, Hc, Ha⟩, ⟨⟨%f, Hv⟩, Hst⟩, Hla, HO⟩
  iapplyF (seq (s_load m c i f)); iintro HF
  iapplyF (seq (s_xrWait m c i T hT)); iintro ⟨HO, Hxr, Hr⟩
  iapplyF (seq (s_laWait m c i T (hT.mono (by omega)))); iintro ⟨⟨Hv, Hx⟩, Hla, HO⟩
  iapplyF (seq (s_sum m c i)); iintro ⟨Hv, Hr⟩
  icases (vAt_split c (slot i) (V c (acc m c i))).1 $$ Hv with ⟨Hv, Hy, Hz⟩
  iapplyF (last (s_store m c i)); iintro HF
  iclose

theorem turnC_spec (c : Dev nD) (j : Fin 32) (n : ℕ) :
    iprop(recs m ∗ Direct m c j ∗ Halves m c (q32 j) ∗ ow c (Om c j.val n))
      ⊢ WP c (pYSend c j >>= fun _ => pZSend c j) (fun _ => iprop(Sent c j ∗ ow c (Om c (j.val + 1) n))) := by
  have e : Om c j.val n = (Om c (j.val + 1) n + tallyAt (cell (zp c) (.zr (s32 j))) () N) + tallyAt (cell (yp c) (.yr (s32 j))) () N := by
    unfold Om; rw [Oy_succ, Oz_succ]; ac_rfl
  rw [e]
  unfold Direct Halves Sent
  iintro ⟨#HR, ⟨⟨Hoy, Hys, Hyr, Hay⟩, ⟨Hoz, Hzs, Hzr, Haz⟩⟩, ⟨Hy, Hz⟩, HO⟩
  iapplyF (seq (s_ysend m c j _)); iintro ⟨Hcy, HO⟩
  iapplyF (last (s_zsend m c j _)); iintro ⟨Hcz, HO⟩
  iclose

theorem fzb_third (c : Dev nD) (j : Fin 32) (h : j.val % 3 = 0) : fzb c (third j) = ob (yp c) (q32 j) := by
  have e : t0 (third j) = j := Fin.ext (by show 3 * (j.val / 3) = j.val; omega)
  unfold fzb; rw [e]
theorem fyb_third (c : Dev nD) (j : Fin 32) (h : j.val % 3 = 1) : fyb c (third j) = ob (zp c) (q32 j) := by
  have e : t1 (third j) = j := Fin.ext (by show 3 * (j.val / 3) + 1 = j.val; omega)
  unfold fyb; rw [e]

theorem fwd_spec (c : Dev nD) (j : Fin 32) (i : ℕ) (hi : j.val + 1 ≤ i) (hi' : i ≤ 90) :
    iprop(recs m ∗ Fwd m c j ∗ ow c (Om c i j.val))
      ⊢ WP c (fwd c j.val j.isLt) (fun _ => iprop(FwdDone c j ∗ ow c (Om c i (j.val + 1)))) := by
  have hT : Above (3 + j.val) (Om c i j.val) := (above_Om c i j.val hi').mono (by omega)
  have e : Om c i j.val = Om c i (j.val + 1) + fwdDebt c j := by unfold Om; rw [Of_succ]; ac_rfl
  unfold Fwd FwdDone fwd
  by_cases h0 : j.val % 3 = 0
  · have h1 : j.val % 3 ≠ 1 := by omega
    have ef : fwdDebt c j = tallyAt (cell (zp c) (.zr (f11 (third j)))) () N := if_pos h0
    rw [dif_pos h0, onMod_pos h0, onMod_pos h0, onMod_neg h1, onMod_neg h1, onMod_pos h0, onMod_pos h0, onMod_neg h1, onMod_neg h1]
    unfold arrY FzNeed
    iintro ⟨#HR, ⟨⟨⟨Hc, Ha⟩, ⟨Ho, Ht, Ht'⟩⟩, _⟩, HO⟩
    iapplyF (seq (s_yrWait m c j _ hT)); iintro ⟨HO, Hs, Hx⟩
    irwh [← fzb_third c j h0] at Hx
    irwh [e, ef] at HO
    iapplyF (last (s_fzsend m c (third j) _)); iintro ⟨Hc, HO⟩
    iclose
  · by_cases h1 : j.val % 3 = 1
    · have ef : fwdDebt c j = tallyAt (cell (yp c) (.yr (f11 (third j)))) () N := (if_neg h0).trans (if_pos h1)
      rw [dif_neg h0, dif_pos h1, onMod_neg h0, onMod_neg h0, onMod_pos h1, onMod_pos h1, onMod_neg h0, onMod_neg h0, onMod_pos h1, onMod_pos h1]
      unfold arrZ FyNeed
      iintro ⟨#HR, ⟨_, ⟨⟨Hc, Ha⟩, ⟨Ho, Ht, Ht'⟩⟩⟩, HO⟩
      iapplyF (seq (s_zrWait m c j _ hT)); iintro ⟨HO, Hs, Hx⟩
      irwh [← fyb_third c j h1] at Hx
      irwh [e, ef] at HO
      iapplyF (last (s_fysend m c (third j) _)); iintro ⟨Hc, HO⟩
      iclose
    · have ef : fwdDebt c j = 0 := (if_neg h0).trans (if_neg h1)
      rw [ef, add_zero] at e
      rw [dif_neg h0, dif_neg h1, onMod_neg h0, onMod_neg h0, onMod_neg h1, onMod_neg h1, onMod_neg h0, onMod_neg h0, onMod_neg h1, onMod_neg h1, e]
      iintro ⟨_, _, HO⟩
      iapplyF (last (pure_spec (P := ow c (Om c i (j.val + 1))))); iintro HO
      iclose

end Cert.KernelIdeal.Body

end
-- ==== Proof.MainLoop.lean ====
/- The main loop: what holds before each turn, and that a turn carries it on. -/
module

public import proofs.«01_k».proof.Proof.Turn

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-- The chunks whose store is still in flight before turn `i`, and once that turn has freed its slot. -/
def win (i : ℕ) : Finset (Fin 42) := Finset.univ.filter fun x => x.val < i ∧ i ≤ x.val + 4
def win' (i : ℕ) : Finset (Fin 42) := Finset.univ.filter fun x => x.val < i ∧ i < x.val + 4

omit [FloatOps F] in
/-- A family with one more member. -/
theorem fam_insert {I : Type} [DecidableEq I] {S : Finset I} {i : I} (h : i ∉ S) (Φ : I → sProp 𝕄) :
    bigSep (insert i S) Φ = iprop(Φ i ∗ bigSep S Φ) := BI.bigSep_insert h

theorem win_zero : win 0 = ∅ := Finset.ext fun x => by simp [win]
theorem win_lt {i : ℕ} (h : i < 4) : win i = win' i := Finset.ext fun x => by simp [win, win']; omega
theorem win_ge {i : ℕ} (h : 4 ≤ i) (hi : i - 4 < 42) : win i = insert ⟨i - 4, hi⟩ (win' i) :=
  Finset.ext fun x => by simp [win, win', Fin.ext_iff]; omega
theorem notMem_win'_old {i : ℕ} (h : 4 ≤ i) (hi : i - 4 < 42) : (⟨i - 4, hi⟩ : Fin 42) ∉ win' i := by simp [win']; omega
theorem win_succ (i : Fin 42) : win (i.val + 1) = insert i (win' i.val) :=
  Finset.ext fun x => by simp [win, win', Fin.ext_iff]; omega
theorem notMem_win'_self (i : Fin 42) : i ∉ win' i.val := by simp [win']
theorem slot_back (i : Fin 42) (h : 4 ≤ i.val) (hi : i.val - 4 < 42) : slot ⟨i.val - 4, hi⟩ = slot i :=
  Fin.ext (by show (i.val - 4) % 4 = i.val % 4; omega)

/-! ## Freeing a slot -/

/-- The sends of chunk `x` once done, if it has any. -/
def sentIf (c : Dev nD) (x : Fin 42) : sProp 𝕄 := if h : x.val < 32 then SentDone c ⟨x.val, h⟩ else iprop(emp)

theorem fly_done (c : Dev nD) (x : Fin 42) (T : CellTallies nD τ sig Unit) (hT : Above 0 T) :
    iprop(recs m ∗ Flying m c x ∗ ow c T)
      ⊢ WP c (pStWait c x >>= fun _ => if h : x.val < 32 then pYsWait c ⟨x.val, h⟩ >>= fun _ => pZsWait c ⟨x.val, h⟩ else pure ⟨⟩)
          (fun _ => iprop(Free c (slot x) ∗ oAt c (ob c x) (O m c) ∗ sentIf c x ∗ ow c T)) := by
  unfold Flying sentIf
  by_cases h : x.val < 32
  · rw [dif_pos h, dif_pos h, dif_pos h]
    have hy := s_ysWait m c ⟨x.val, h⟩ T hT
    have hz := s_zsWait m c ⟨x.val, h⟩ T hT
    unfold Sent SentDone Free
    iintro ⟨#HR, ⟨HF, ⟨⟨Hcy, Hay⟩, ⟨Hcz, Haz⟩⟩⟩, HO⟩
    iapplyF (seq (s_stWait m c x T hT)); iintro ⟨⟨Ho, Hv⟩, Hs, HO⟩
    iapplyF (seq hy); iintro ⟨HO, Hsy, Hy⟩
    iapplyF (last hz); iintro ⟨HO, Hsz, Hz⟩
    ihave Hv := (vAt_split c (slot x) (V c (acc m c x))).2 $$ [Hv Hy Hz]
    · isplitl [Hv]; · iexact Hv
      isplitl [Hy]; · iexact Hy
      iexact Hz
    iclose
  · rw [dif_neg h, dif_neg h, dif_neg h]
    iintro ⟨#HR, ⟨HF, Hh⟩, HO⟩
    iapplyF (seq (store_done m c x T hT)); iintro ⟨HF, Ho, HO⟩
    iapply (last (pure_spec (P := ow c T))) $$ HO; iintro HO
    iclose

/-- The results stored, and the sends done, of the chunks before `n`. -/
def outD (c : Dev nD) (n : ℕ) : sProp 𝕄 := bigSep (finUpTo 42 n) fun x => oAt c (ob c x) (O m c)
def sentD (c : Dev nD) (n : ℕ) : sProp 𝕄 := bigSep (finUpTo 32 n) (SentDone c)

theorem outD_succ (c : Dev nD) (x : Fin 42) : outD m c (x.val + 1) = iprop(oAt c (ob c x) (O m c) ∗ outD m c x.val) :=
  bigSep_finUpTo_succ x.isLt _
omit [FloatOps F] in
theorem sentD_succ (c : Dev nD) (x : Fin 42) : sentD (F := F) c (x.val + 1) = iprop(sentIf c x ∗ sentD c x.val) := by
  unfold sentD sentIf
  by_cases h : x.val < 32
  · rw [dif_pos h]; exact bigSep_finUpTo_succ h _
  · rw [dif_neg h, finUpTo_of_le (by omega), finUpTo_of_le (by omega)]
    exact (equiv_iff.mp emp_sep).symm

theorem turnA_spec (c : Dev nD) (i : Fin 42) (T : CellTallies nD τ sig Unit) (hT : Above 0 T) :
    iprop(recs m ∗ bigSep (finFrom 4 i.val) (Free c) ∗ bigSep (win i.val) (Flying m c) ∗ outD m c (i.val - 4) ∗ sentD c (i.val - 4) ∗ ow c T)
      ⊢ WP c (turnA c i) (fun _ => iprop(Free c (slot i) ∗ bigSep (finFrom 4 (i.val + 1)) (Free c) ∗ bigSep (win' i.val) (Flying m c)
          ∗ outD m c (i.val + 1 - 4) ∗ sentD c (i.val + 1 - 4) ∗ ow c T)) := by
  by_cases h : 4 ≤ i.val
  · obtain ⟨x, hx⟩ : ∃ x : Fin 42, x = ⟨i.val - 4, by omega⟩ := ⟨_, rfl⟩
    have hxv : x.val = i.val - 4 := by rw [hx]
    have e1 : i.val + 1 - 4 = x.val + 1 := by omega
    have e2 : win i.val = insert x (win' i.val) := by rw [hx]; exact win_ge h _
    have e3 : x ∉ win' i.val := by rw [hx]; exact notMem_win'_old h _
    have e4 : slot x = slot i := by rw [hx]; exact slot_back i h _
    have eA : turnA (F := F) c i = (pStWait c x >>= fun _ => if h : x.val < 32 then pYsWait c ⟨x.val, h⟩ >>= fun _ => pZsWait c ⟨x.val, h⟩ else pure ⟨⟩) := by
      subst hx; exact dif_pos h
    rw [eA, e1, ← hxv, e2, outD_succ, sentD_succ, finFrom_of_le h, finFrom_of_le (by omega), fam_insert e3, ← e4]
    iintro ⟨#HR, Hf, ⟨Hx, Hw⟩, Ho, Hs, HO⟩
    iapplyF (last (fly_done m c x T hT)); iintro ⟨HF, Hox, Hsx, HO⟩
    iclose
  · have e1 : i.val - 4 = 0 := by omega
    have e2 : i.val + 1 - 4 = 0 := by omega
    have e4 : slot i = ⟨i.val, by omega⟩ := Fin.ext (by show i.val % 4 = i.val; omega)
    have eA : turnA (F := F) c i = pure ⟨⟩ := dif_neg h
    rw [eA, e1, e2, win_lt (by omega), bigSep_finFrom_succ (show i.val < 4 by omega), e4]
    iintro ⟨#HR, ⟨Hi, Hf⟩, Hw, Ho, Hs, HO⟩
    iapply (last (pure_spec (P := ow c T))) $$ HO; iintro HO
    iclose

/-! ## Sending on, and forwarding -/

theorem turnC'_spec (c : Dev nD) (i : Fin 42) (n : ℕ) :
    iprop(recs m ∗ bigSep (finFrom 32 i.val) (Direct m c) ∗ FSt m c i ∗ Halves m c i ∗ ow c (Om c i.val n))
      ⊢ WP c (turnC c i) (fun _ => iprop(bigSep (finFrom 32 (i.val + 1)) (Direct m c) ∗ Flying m c i ∗ ow c (Om c (i.val + 1) n))) := by
  unfold Flying turnC
  by_cases h : i.val < 32
  · have hC := turnC_spec m c ⟨i.val, h⟩ n
    rw [dif_pos h, dif_pos h, bigSep_finFrom_succ h]
    iintro ⟨#HR, ⟨Hd, HD⟩, HF, Hh, HO⟩
    iapply (last hC) $$ [Hd Hh HO]
    · isplitr; · iexact HR
      isplitl [Hd]; · iexact Hd
      isplitl [Hh]; · iexact Hh
      iexact HO
    iintro ⟨Hs, HO⟩
    iclose
  · have e : Om c i.val n = Om c (i.val + 1) n := by
      unfold Om; rw [Oy_ge c i.val (by omega), Oz_ge c i.val (by omega), Oy_ge c _ (by omega), Oz_ge c _ (by omega)]
    rw [dif_neg h, dif_neg h, finFrom_of_le (by omega), finFrom_of_le (by omega), e]
    iintro ⟨#HR, HD, HF, Hh, HO⟩
    iapply (last (pure_spec (P := ow c (Om c (i.val + 1) n)))) $$ HO; iintro HO
    iclose

theorem turnD_spec (c : Dev nD) (i : Fin 42) :
    iprop(recs m ∗ bigSep (finFrom 32 (i.val - 2)) (Fwd m c) ∗ bigSep (finUpTo 32 (i.val - 2)) (FwdDone c) ∗ ow c (Om c (i.val + 1) (i.val - 2)))
      ⊢ WP c (turnD c i) (fun _ => iprop(bigSep (finFrom 32 (i.val + 1 - 2)) (Fwd m c) ∗ bigSep (finUpTo 32 (i.val + 1 - 2)) (FwdDone c)
          ∗ ow c (Om c (i.val + 1) (i.val + 1 - 2)))) := by
  by_cases h : 2 ≤ i.val ∧ i.val - 2 < 32
  · obtain ⟨j, hj⟩ : ∃ j : Fin 32, j = ⟨i.val - 2, h.2⟩ := ⟨_, rfl⟩
    have hjv : j.val = i.val - 2 := by rw [hj]
    have e1 : i.val + 1 - 2 = j.val + 1 := by omega
    have eD : turnD (F := F) c i = fwd c j.val j.isLt := by subst hj; exact dif_pos h
    have hF := fwd_spec m c j (i.val + 1) (by omega) (by omega)
    rw [eD, e1, ← hjv, bigSep_finFrom_succ j.isLt, bigSep_finUpTo_succ j.isLt]
    iintro ⟨#HR, ⟨Hj, HF⟩, HD, HO⟩
    iapplyF (last hF); iintro ⟨Hd, HO⟩
    iclose
  · have eD : turnD (F := F) c i = pure ⟨⟩ := dif_neg h
    rw [eD]
    by_cases h2 : 2 ≤ i.val
    · have e : Om c (i.val + 1) (i.val - 2) = Om c (i.val + 1) (i.val + 1 - 2) := by
        unfold Om; rw [Of_ge c (i.val - 2) (by omega), Of_ge c _ (by omega)]
      rw [e, finFrom_of_le (show 32 ≤ i.val - 2 by omega), finFrom_of_le (show 32 ≤ i.val + 1 - 2 by omega),
        finUpTo_of_le (show 32 ≤ i.val - 2 by omega), finUpTo_of_le (show 32 ≤ i.val + 1 - 2 by omega)]
      iintro ⟨_, H⟩
      iapply (last (pure_spec (c := c))) $$ H; iintro H; iexact H
    · have e1 : i.val - 2 = 0 := by omega
      have e2 : i.val + 1 - 2 = 0 := by omega
      rw [e1, e2]
      iintro ⟨_, H⟩
      iapply (last (pure_spec (c := c))) $$ H; iintro H; iexact H

/-! ## The loop -/

/-- What device `c` holds before turn `i`. -/
def Inv (c : Dev nD) (i : ℕ) : sProp 𝕄 :=
  iprop(ow c (Om c i (i - 2)) ∗ bigSep (finFrom 42 i) (Chunk m c) ∗ bigSep (finUpTo 42 i) (ChunkDone m c)
    ∗ bigSep (finFrom 4 i) (Free c) ∗ bigSep Finset.univ (svLa (F := F) c)
    ∗ bigSep (win i) (Flying m c) ∗ outD m c (i - 4) ∗ sentD c (i - 4)
    ∗ bigSep (finFrom 32 i) (Direct m c)
    ∗ bigSep (finFrom 32 (i - 2)) (Fwd m c) ∗ bigSep (finUpTo 32 (i - 2)) (FwdDone c))

theorem turn_spec (c : Dev nD) (i : Fin 42) : iprop(recs m ∗ Inv m c i.val) ⊢ WP c (turn c i) (fun _ => Inv m c (i.val + 1)) := by
  have hT : Above 2 (Om c i.val (i.val - 2)) := (above_Om c i.val _ (by omega)).mono (by omega)
  have hla : bigSep Finset.univ (svLa (F := F) c) = iprop(svLa c (slot i) ∗ bigSep (Finset.univ.erase (slot i)) (svLa c)) :=
    BI.bigSep_erase (Finset.mem_univ _)
  unfold Inv turn
  rw [hla, bigSep_finFrom_succ i.isLt (Chunk m c), bigSep_finUpTo_succ i.isLt (ChunkDone m c), win_succ, fam_insert (notMem_win'_self i)]
  iintro ⟨#HR, HO, ⟨Hc, HC⟩, HCD, HF, ⟨Hl, HL⟩, HW, Hout, Hsent, HD, HFw, HFD⟩
  iapplyF (seq (turnA_spec m c i _ (hT.mono (by omega)))); iintro ⟨Hf, HF, HW, Hout, Hsent, HO⟩
  iapplyF (seq (turnB_spec m c i _ hT)); iintro ⟨Hc, Hst, Hh, Hl, HO⟩
  iapplyF (seq (turnC'_spec m c i _)); iintro ⟨HD, Hfl, HO⟩
  iapplyF (last (turnD_spec m c i)); iintro ⟨HFw, HFD, HO⟩
  iclose

end Cert.KernelIdeal.Body

end
-- ==== Proof.Pools.lean ====
/- The whole body of a device: the barrier, the sends across `x`, the main loop, and the waits that remain. -/
module

public import proofs.«01_k».proof.Proof.MainLoop

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-- A resource for every member of a finite type. -/
abbrev all {I : Type} [Fintype I] (Φ : I → sProp 𝕄) : sProp 𝕄 := bigSep Finset.univ Φ

/-! ## Families taken apart -/

omit [FloatOps F] in
/-- A family over the chunks is what it holds at one remainder and what it holds at the others. -/
theorem all_mod (r : ℕ) (A : Fin 32 → sProp 𝕄) : all A = iprop(all (onMod r A) ∗ all (offMod r A)) := by
  refine Eq.trans ?_ (bigSep_sep' Finset.univ (onMod r A) (offMod r A))
  refine bigSep_congr fun j _ => ?_
  by_cases h : j.val % 3 = r
  · rw [onMod_pos h, offMod_pos h]; exact (equiv_iff.mp sep_emp).symm
  · rw [onMod_neg h, offMod_neg h]; exact (equiv_iff.mp emp_sep).symm

omit [FloatOps F] in
/-- What a family holds at one remainder, told by the chunks of that remainder. -/
theorem all_onMod (r : ℕ) (A : Fin 32 → sProp 𝕄) (t : Fin 11 → Fin 32) (ht : Function.Injective t)
    (him : ∀ j : Fin 32, j.val % 3 = r ↔ ∃ k, t k = j) : all (onMod r A) = all (fun k => A (t k)) := by
  have h1 : all (onMod r A) = iprop(bigSep (Finset.univ.filter fun j : Fin 32 => j.val % 3 = r) (onMod r A)
      ∗ bigSep (Finset.univ.filter fun j : Fin 32 => ¬ j.val % 3 = r) (onMod r A)) := BI.bigSep_filter_split _ _
  have h2 : bigSep (Finset.univ.filter fun j : Fin 32 => ¬ j.val % 3 = r) (onMod r A) = iprop(emp) :=
    (bigSep_congr fun j hj => onMod_neg (Finset.mem_filter.mp hj).2).trans (bigSep_emp_const _)
  have h3 : (Finset.univ.filter fun j : Fin 32 => j.val % 3 = r) = Finset.univ.map ⟨t, ht⟩ := Finset.ext fun j => by
    simp only [Finset.mem_filter, Finset.mem_univ, true_and, Finset.mem_map, Function.Embedding.coeFn_mk]
    exact him j
  rw [h1, h2, h3, bigSep_map]
  refine (equiv_iff.mp sep_emp).trans (bigSep_congr fun k _ => ?_)
  exact onMod_pos ((him (t k)).mpr ⟨k, rfl⟩)

theorem t0_inj : Function.Injective t0 := by decide
theorem t1_inj : Function.Injective t1 := by decide
theorem t0_image (j : Fin 32) : j.val % 3 = 0 ↔ ∃ k, t0 k = j := by revert j; decide
theorem t1_image (j : Fin 32) : j.val % 3 = 1 ↔ ∃ k, t1 k = j := by revert j; decide
theorem third_t0 (k : Fin 11) : third (t0 k) = k := by revert k; decide
theorem third_t1 (k : Fin 11) : third (t1 k) = k := by revert k; decide

omit [FloatOps F] in
theorem all_third0 (A : Fin 11 → sProp 𝕄) : all (onMod 0 fun j => A (third j)) = all A :=
  (all_onMod 0 _ t0 t0_inj t0_image).trans (bigSep_congr fun k _ => congrArg A (third_t0 k))
omit [FloatOps F] in
theorem all_third1 (A : Fin 11 → sProp 𝕄) : all (onMod 1 fun j => A (third j)) = all A :=
  (all_onMod 1 _ t1 t1_inj t1_image).trans (bigSep_congr fun k _ => congrArg A (third_t1 k))

omit [FloatOps F] in
/-- The transfers across `y` or `z` are those of the quadrant's chunks and the forwards. -/
theorem all_43 (Φ : Fin 43 → sProp 𝕄) : all Φ = iprop(all (fun j => Φ (s32 j)) ∗ all (fun k => Φ (f11 k))) := by
  show bigSep Finset.univ Φ = _
  rw [bigSep_univ_equiv (finSumFinEquiv : Fin 32 ⊕ Fin 11 ≃ Fin 43), bigSep_univ_sum]
  rfl

omit [FloatOps F] in
/-- A family over the cells, kind by kind. -/
theorem all_CK (Φ : CK → sProp 𝕄) : all Φ
    = iprop(Φ .bar ∗ all (fun i => Φ (.xs i)) ∗ all (fun i => Φ (.xr i)) ∗ all (fun i => Φ (.ys i)) ∗ all (fun i => Φ (.yr i))
        ∗ all (fun i => Φ (.zs i)) ∗ all (fun i => Φ (.zr i))) := bigSep_CK Φ

omit [FloatOps F] in
theorem all_4 (Φ : Fin 4 → sProp 𝕄) : all Φ = iprop(Φ 0 ∗ Φ 1 ∗ Φ 2 ∗ Φ 3) := by
  show bigSep Finset.univ Φ = _
  rw [bigSep_univ_eq_bigSepL [0, 1, 2, 3] (by decide) (by decide)]
  rfl

/-- The chunks and forwards as the sums of what they are made of. -/
theorem all_Chunk (c : Dev nD) : all (Chunk m c) = iprop(all (fun i => xAt m c (ob c i) (mine c)) ∗ all (fun i => oAt c (ob c i) (O0 m c))
    ∗ all (fun i => cr c (.xr i)) ∗ all (fun i => at0 c (.xr i))) := by
  show (bigSep Finset.univ fun i => Chunk m c i) = _
  simp only [Chunk, bigSep_sep']
theorem all_ChunkDone (c : Dev nD) : all (ChunkDone m c) = iprop(all (fun i => xAt m c (ob c i) (mine c)) ∗ all (fun i => sv c (.xr i))
    ∗ all (fun i => rAt c i (R m c))) := by
  show (bigSep Finset.univ fun i => ChunkDone m c i) = _
  simp only [ChunkDone, bigSep_sep']
theorem all_Direct (c : Dev nD) : all (Direct m c) = iprop(
    (all (fun j => oAt (yp c) (ob c (q32 j)) (O0 m (yp c))) ∗ all (fun j => tk c (.ys (s32 j))) ∗ all (fun j => tk (yp c) (.yr (s32 j)))
      ∗ all (fun j => at0 c (.ys (s32 j))))
    ∗ (all (fun j => oAt (zp c) (ob c (q32 j)) (O0 m (zp c))) ∗ all (fun j => tk c (.zs (s32 j))) ∗ all (fun j => tk (zp c) (.zr (s32 j)))
      ∗ all (fun j => at0 c (.zs (s32 j))))) := by
  show (bigSep Finset.univ fun j => Direct m c j) = _
  simp only [Direct, bigSep_sep']
omit [FloatOps F] in
theorem all_SentDone (c : Dev nD) : all (SentDone (F := F) c) = iprop(all (fun j => sv c (.ys (s32 j))) ∗ all (fun j => sv c (.zs (s32 j)))) := by
  show (bigSep Finset.univ fun j => SentDone c j) = _
  simp only [SentDone, bigSep_sep']
theorem all_FzNeed (c : Dev nD) : all (FzNeed m c) = iprop(all (fun k => oAt (zp c) (fzb c k) (O0 m (zp c))) ∗ all (fun k => tk c (.zs (f11 k)))
    ∗ all (fun k => tk (zp c) (.zr (f11 k)))) := by
  show (bigSep Finset.univ fun j => FzNeed m c j) = _
  simp only [FzNeed, bigSep_sep']
theorem all_FyNeed (c : Dev nD) : all (FyNeed m c) = iprop(all (fun k => oAt (yp c) (fyb c k) (O0 m (yp c))) ∗ all (fun k => tk c (.ys (f11 k)))
    ∗ all (fun k => tk (yp c) (.yr (f11 k)))) := by
  show (bigSep Finset.univ fun j => FyNeed m c j) = _
  simp only [FyNeed, bigSep_sep']
theorem all_Fwd (c : Dev nD) : all (Fwd m c) = iprop((all (onMod 0 (arrY c)) ∗ all (FzNeed m c)) ∗ (all (onMod 1 (arrZ c)) ∗ all (FyNeed m c))) := by
  rw [← all_third0 (FzNeed m c), ← all_third1 (FyNeed m c)]
  show (bigSep Finset.univ fun j => Fwd m c j) = _
  simp only [Fwd, bigSep_sep']
omit [FloatOps F] in
theorem all_FwdDone (c : Dev nD) : all (FwdDone (F := F) c) = iprop((all (onMod 0 (fun j => sv c (.yr (s32 j)))) ∗ all (fun k => cr c (.zs (f11 k))))
    ∗ (all (onMod 1 (fun j => sv c (.zr (s32 j)))) ∗ all (fun k => cr c (.ys (f11 k))))) := by
  rw [← all_third0 (fun k => cr c (.zs (f11 k))), ← all_third1 (fun k => cr c (.ys (f11 k)))]
  show (bigSep Finset.univ fun j => FwdDone c j) = _
  simp only [FwdDone, bigSep_sep']

/-! ## Before and after the body -/

/-- The blocks of device `c`'s result, all holding `f`: its own chunks, the neighbours' quadrants, the diagonal's. -/
def outs (c : Dev nD) (f : Buf (Elt F) ((c : Thread nD τ).loc main_v1)) : sProp 𝕄 :=
  iprop(all (fun i => oAt c (ob c i) f) ∗ all (fun j => oAt c (ob (yp c) (q32 j)) f) ∗ all (fun j => oAt c (ob (zp c) (q32 j)) f)
    ∗ all (fun k => oAt c (fzb (zp c) k) f) ∗ all (fun k => oAt c (fyb (yp c) k) f))

omit [FloatOps F] in
theorem outs_eq (c : Dev nD) (f : Buf (Elt F) ((c : Thread nD τ).loc main_v1)) :
    (((c : Thread nD τ).loc main_v1) ↦{fullShare} f : sProp 𝕄) = outs c f := by
  rw [o_blocks, bigSep_univ_equiv (obkEq c), bigSep_univ_sum, bigSep_univ_sum, bigSep_univ_sum, bigSep_univ_sum]
  rfl

/-- The blocks of the input that the body does not touch. -/
def xRest (c : Dev nD) : sProp 𝕄 :=
  all fun o : Fin 32 ⊕ (Fin 32 ⊕ (Fin 11 ⊕ Fin 11)) => iprop(xAt m c (obk c (.inr o)) (oth c) ∗ xAt m c (obk c (.inr o)) (mine c))
omit [FloatOps F] in
theorem xs_eq (c : Dev nD) : (((c : Thread nD τ).loc main_arg0) ↦{fullShare} X m c : sProp 𝕄)
    = iprop((all (fun i => xAt m c (ob c i) (oth c)) ∗ all (fun i => xAt m c (ob c i) (mine c))) ∗ xRest m c) := by
  rw [x_blocks, bigSep_univ_equiv (obkEq c), bigSep_univ_sum]
  show iprop((bigSep Finset.univ fun i => iprop(xAt m c (ob c i) (oth c) ∗ xAt m c (ob c i) (mine c))) ∗ xRest m c) = _
  rw [bigSep_sep']

/-- The tokens with which device `c` signals and sends. -/
def toks (c : Dev nD) : sProp 𝕄 :=
  iprop((dutyTok ER (cell (xp c) .bar) 0 0 ∗ dutyTok ER (cell (yp c) .bar) 0 1 ∗ dutyTok ER (cell (zp c) .bar) 0 2)
    ∗ all (fun i => tk c (.xs i)) ∗ all (fun i => tk (xp c) (.xr i)) ∗ all (fun q => tk c (.ys q)) ∗ all (fun q => tk (yp c) (.yr q))
    ∗ all (fun q => tk c (.zs q)) ∗ all (fun q => tk (zp c) (.zr q)))
/-- The rights to wait that device `c` has from the start. -/
def creds (c : Dev nD) : sProp 𝕄 :=
  iprop(cred (tallyAt (cell c .bar) () 3) ∗ all (fun i => cr c (.xr i)) ∗ all (fun q => cr c (.yr q)) ∗ all (fun q => cr c (.zr q)))

/-- What device `c`'s body starts from … -/
def Start (c : Dev nD) : sProp 𝕄 :=
  iprop(ow c (O₀ c) ∗ (all (fun i => xAt m c (ob c i) (oth c)) ∗ all (fun i => xAt m c (ob c i) (mine c)))
    ∗ outs c (O0 m c) ∗ (∃ f, all fun i => rAt c i f) ∗ all (Free c) ∗ all (svLa (F := F) c) ∗ toks c ∗ creds c ∗ all (at0 c))
/-- … and what it leaves. -/
def Done (c : Dev nD) : sProp 𝕄 :=
  iprop(ow c 0 ∗ (all (fun i => xAt m c (ob c i) (oth c)) ∗ all (fun i => xAt m c (ob c i) (mine c)))
    ∗ outs c (O m c) ∗ (all fun i => rAt c i (R m c)) ∗ all (Free c) ∗ all (svLa (F := F) c) ∗ all (sv c))

/-! ## The sends across `x` -/

/-- What sending chunk `i` across `x` takes. -/
def XNeed (c : Dev nD) (f : Buf (Elt F) ((xp c : Thread nD τ).loc cc0_scratch0)) (i : Fin 42) : sProp 𝕄 :=
  iprop(xAt m c (ob c i) (oth c) ∗ rAt (xp c) i f ∗ tk c (.xs i) ∗ tk (xp c) (.xr i))
omit [FloatOps F] in
theorem all_XNeed (c : Dev nD) (f : Buf (Elt F) ((xp c : Thread nD τ).loc cc0_scratch0)) : all (XNeed m c f)
    = iprop(all (fun i => xAt m c (ob c i) (oth c)) ∗ all (fun i => rAt (xp c) i f) ∗ all (fun i => tk c (.xs i)) ∗ all (fun i => tk (xp c) (.xr i))) := by
  show (bigSep Finset.univ fun j => XNeed m c f j) = _
  simp only [XNeed, bigSep_sep']

theorem xsends (c : Dev nD) (f : Buf (Elt F) ((xp c : Thread nD τ).loc cc0_scratch0)) {k : KProg F} {Q : PUnit → sProp 𝕄} :
    iprop(recs m ∗ ow c (O₁ c 0) ∗ all (XNeed m c f))
      ⊢ iprop((ow c (Om c 0 0) ∗ all (fun i => cr c (.xs i)) -∗ WP c k Q) -∗ WP c (loop (at_ (pXSend c)) 42 0 k) Q) := by
  have hstep : ∀ i : Fin 42, iprop(recs m ∗ (ow c (O₁ c i.val) ∗ bigSep (finFrom 42 i.val) (XNeed m c f) ∗ bigSep (finUpTo 42 i.val) fun i => cr c (.xs i)))
      ⊢ WP c (pXSend c i) (fun _ => iprop(ow c (O₁ c (i.val + 1)) ∗ bigSep (finFrom 42 (i.val + 1)) (XNeed m c f)
          ∗ bigSep (finUpTo 42 (i.val + 1)) fun i => cr c (.xs i))) := by
    intro i
    have e : O₁ c i.val = O₁ c (i.val + 1) + tallyAt (cell (xp c) (.xr i)) () N := by unfold O₁; rw [Ox_succ]; ac_rfl
    rw [bigSep_finUpTo_succ i.isLt, bigSep_finFrom_succ i.isLt, e]
    unfold XNeed
    iintro ⟨#HR, HO, ⟨⟨Hx, Hr, Ht, Ht'⟩, HA⟩, HB⟩
    iapplyF (last (s_xsend m c i _ f)); iintro ⟨Hc, HO⟩
    iclose
  have e : O₁ c 42 = Om c 0 0 := by unfold O₁; rw [Ox_ge c 42 (le_refl _), add_zero]
  iintro ⟨#HR, HO, HA⟩ HK
  iapply (loop_rule m (pXSend c) (fun i => iprop(ow c (O₁ c i) ∗ bigSep (finFrom 42 i) (XNeed m c f) ∗ bigSep (finUpTo 42 i) fun i => cr c (.xs i))) hstep)
    $$ [HO HA] [HK]
  · ihave HA := (Entails.of_eq (bigSep_finFrom_zero (XNeed m c f)).symm) $$ HA
    isplitr; · iexact HR
    isplitl [HO]; · iexact HO
    isplitl [HA]; · iexact HA
    rw [bigSep_finUpTo_zero]; iempintro
  · iintro ⟨HO, _, HB⟩
    irwh [e] at HO
    irwh [bigSep_finUpTo_self] at HB
    iapply HK; iclose

/-! ## The waits at the end -/

theorem above_zero' (b : ℕ) : Above b 0 := above_zero b

theorem st_end (c : Dev nD) (x : Fin 42) (h : ¬ x.val < 32) :
    iprop(recs m ∗ Flying m c x ∗ ow c 0) ⊢ WP c (pStWait c x) (fun _ => iprop(Free c (slot x) ∗ oAt c (ob c x) (O m c) ∗ ow c 0)) := by
  unfold Flying; rw [dif_neg h]
  iintro ⟨#HR, ⟨HF, Hh⟩, HO⟩
  iapplyF (last (store_done m c x 0 (above_zero 0))); iintro ⟨HF, Ho, HO⟩
  iclose

theorem fz_end (c : Dev nD) (k : Fin 11) :
    iprop(recs m ∗ ow c 0 ∗ ((cr c (.zs (f11 k)) ∗ at0 c (.zs (f11 k))) ∗ (cr c (.zr (f11 k)) ∗ at0 c (.zr (f11 k)))))
      ⊢ WP c (tailFz c k) (fun _ => iprop(ow c 0 ∗ ((sv c (.zs (f11 k)) ∗ oAt c (fzb c k) (O m c)) ∗ (sv c (.zr (f11 k)) ∗ oAt c (fzb (zp c) k) (O m c))))) := by
  unfold tailFz
  iintro ⟨#HR, HO, ⟨Hc, Ha⟩, ⟨Hc', Ha'⟩⟩
  iapplyF (seq (s_fzWaitS m c k 0 (above_zero 0))); iintro ⟨HO, Hs, Ho⟩
  iapplyF (last (s_fzWaitR m c k 0 (above_zero 100))); iintro ⟨HO, Hs', Ho'⟩
  iclose
theorem fy_end (c : Dev nD) (k : Fin 11) :
    iprop(recs m ∗ ow c 0 ∗ ((cr c (.ys (f11 k)) ∗ at0 c (.ys (f11 k))) ∗ (cr c (.yr (f11 k)) ∗ at0 c (.yr (f11 k)))))
      ⊢ WP c (tailFy c k) (fun _ => iprop(ow c 0 ∗ ((sv c (.ys (f11 k)) ∗ oAt c (fyb c k) (O m c)) ∗ (sv c (.yr (f11 k)) ∗ oAt c (fyb (yp c) k) (O m c))))) := by
  unfold tailFy
  iintro ⟨#HR, HO, ⟨Hc, Ha⟩, ⟨Hc', Ha'⟩⟩
  iapplyF (seq (s_fyWaitS m c k 0 (above_zero 0))); iintro ⟨HO, Hs, Ho⟩
  iapplyF (last (s_fyWaitR m c k 0 (above_zero 100))); iintro ⟨HO, Hs', Ho'⟩
  iclose

/-- The arrivals that no forward has waited for, before and after. -/
def QNeed (c : Dev nD) (j : Fin 32) : sProp 𝕄 := iprop(offMod 0 (arrY c) j ∗ offMod 1 (arrZ c) j)
def QDone (c : Dev nD) (j : Fin 32) : sProp 𝕄 :=
  iprop((offMod 0 (fun j => sv c (.yr (s32 j))) j ∗ offMod 0 (fun j => oAt c (ob (yp c) (q32 j)) (O m c)) j)
    ∗ (offMod 1 (fun j => sv c (.zr (s32 j))) j ∗ offMod 1 (fun j => oAt c (ob (zp c) (q32 j)) (O m c)) j))
omit [FloatOps F] in
theorem all_QNeed (c : Dev nD) : all (QNeed (F := F) c) = iprop(all (offMod 0 (arrY c)) ∗ all (offMod 1 (arrZ c))) := by
  show (bigSep Finset.univ fun j => QNeed c j) = _
  simp only [QNeed, bigSep_sep']
theorem all_QDone (c : Dev nD) : all (QDone m c) =
    iprop((all (offMod 0 (fun j => sv c (.yr (s32 j)))) ∗ all (offMod 0 (fun j => oAt c (ob (yp c) (q32 j)) (O m c))))
    ∗ (all (offMod 1 (fun j => sv c (.zr (s32 j)))) ∗ all (offMod 1 (fun j => oAt c (ob (zp c) (q32 j)) (O m c))))) := by
  show (bigSep Finset.univ fun j => QDone m c j) = _
  simp only [QDone, bigSep_sep']

theorem qy_end (c : Dev nD) (j : Fin 32) :
    iprop(recs m ∗ ow c 0 ∗ offMod 0 (arrY c) j)
      ⊢ WP c (if j.val % 3 ≠ 0 then pYrWait c j else pure ⟨⟩) (fun _ => iprop(ow c 0
          ∗ (offMod 0 (fun j => sv c (.yr (s32 j))) j ∗ offMod 0 (fun j => oAt c (ob (yp c) (q32 j)) (O m c)) j))) := by
  by_cases h : j.val % 3 = 0
  · rw [if_neg (not_not.mpr h), offMod_pos h, offMod_pos h, offMod_pos h]
    iintro ⟨_, HO, _⟩
    iapply (last (pure_spec (P := ow c 0))) $$ HO; iintro HO
    iclose
  · rw [if_pos h, offMod_neg h, offMod_neg h, offMod_neg h]
    unfold arrY
    iintro ⟨#HR, HO, ⟨Hc, Ha⟩⟩
    iapplyF (last (s_yrWait m c j 0 (above_zero _))); iintro ⟨HO, Hs, Ho⟩
    iclose
theorem qz_end (c : Dev nD) (j : Fin 32) :
    iprop(recs m ∗ ow c 0 ∗ offMod 1 (arrZ c) j)
      ⊢ WP c (if j.val % 3 ≠ 1 then pZrWait c j else pure ⟨⟩) (fun _ => iprop(ow c 0
          ∗ (offMod 1 (fun j => sv c (.zr (s32 j))) j ∗ offMod 1 (fun j => oAt c (ob (zp c) (q32 j)) (O m c)) j))) := by
  by_cases h : j.val % 3 = 1
  · rw [if_neg (not_not.mpr h), offMod_pos h, offMod_pos h, offMod_pos h]
    iintro ⟨_, HO, _⟩
    iapply (last (pure_spec (P := ow c 0))) $$ HO; iintro HO
    iclose
  · rw [if_pos h, offMod_neg h, offMod_neg h, offMod_neg h]
    unfold arrZ
    iintro ⟨#HR, HO, ⟨Hc, Ha⟩⟩
    iapplyF (last (s_zrWait m c j 0 (above_zero _))); iintro ⟨HO, Hs, Ho⟩
    iclose
theorem q_end (c : Dev nD) (j : Fin 32) :
    iprop(recs m ∗ ow c 0 ∗ QNeed c j) ⊢ WP c (tailQ c j) (fun _ => iprop(ow c 0 ∗ QDone m c j)) := by
  unfold QNeed QDone tailQ
  iintro ⟨#HR, HO, ⟨Hy, Hz⟩⟩
  iapplyF (seq (qy_end m c j)); iintro ⟨HO, Hy⟩
  iapplyF (last (qz_end m c j)); iintro ⟨HO, Hz⟩
  iclose

theorem xs_end (c : Dev nD) (i : Fin 42) :
    iprop(recs m ∗ ow c 0 ∗ (cr c (.xs i) ∗ at0 c (.xs i))) ⊢ WP c (pXsWait c i) (fun _ => iprop(ow c 0 ∗ (sv c (.xs i) ∗ xAt m c (ob c i) (oth c)))) := by
  iintro ⟨#HR, HO, ⟨Hc, Ha⟩⟩
  iapplyF (last (s_xsWait m c i 0 (above_zero 0))); iintro ⟨HO, Hs, Hx⟩
  iclose

/-- The forwarded blocks a device passed on are the quadrant's blocks it waited for in the main loop. -/
theorem fz_back (c : Dev nD) : all (fun k => oAt c (fzb c k) (O m c)) = all (onMod 0 fun j => oAt c (ob (yp c) (q32 j)) (O m c)) := by
  rw [all_onMod 0 _ t0 t0_inj t0_image]; rfl
theorem fy_back (c : Dev nD) : all (fun k => oAt c (fyb c k) (O m c)) = all (onMod 1 fun j => oAt c (ob (zp c) (q32 j)) (O m c)) := by
  rw [all_onMod 1 _ t1 t1_inj t1_image]; rfl

theorem win_42 : win 42 = insert 40 (insert 41 (insert 38 (insert 39 ∅))) := by decide
theorem Om_end (c : Dev nD) : Om c 42 40 = 0 := by
  unfold Om; rw [Of_ge c 40 (by omega), Oz_ge c 42 (by omega), Oy_ge c 42 (by omega), add_zero, add_zero]

end Cert.KernelIdeal.Body

end
-- ==== Proof.Whole.lean ====
/- The body of a device, from what it holds at the start to what it leaves. -/
module

public import proofs.«01_k».proof.Proof.Pools

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-! ## What a device gives its neighbours at the barrier -/

omit [FloatOps F] in
theorem give_x (c : Dev nD) : iprop(∃ f, all fun i => rAt (F := F) c i f) ⊢ barPay m (xp c) 0 := by
  have e : barPay m (xp c) 0 = iprop(∃ f, all fun i => rAt (F := F) c i f) := by
    show giveX (xp c) = _
    unfold giveX; rw [xp_xp]
  rw [e]
omit [FloatOps F] in
theorem give_y (c : Dev nD) : iprop(all (fun j => oAt c (ob (yp c) (q32 j)) (O0 m c)) ∗ all (fun k => oAt c (fyb (yp c) k) (O0 m c)))
    ⊢ barPay m (yp c) 1 := by
  have e : barPay m (yp c) 1 = iprop(all (fun j => oAt c (ob (yp c) (q32 j)) (O0 m c)) ∗ all (fun k => oAt c (fyb (yp c) k) (O0 m c))) := by
    show giveY m (yp c) = _
    unfold giveY; rw [yp_yp]
  rw [e]
omit [FloatOps F] in
theorem give_z (c : Dev nD) : iprop(all (fun j => oAt c (ob (zp c) (q32 j)) (O0 m c)) ∗ all (fun k => oAt c (fzb (zp c) k) (O0 m c)))
    ⊢ barPay m (zp c) 2 := by
  have e : barPay m (zp c) 2 = iprop(all (fun j => oAt c (ob (zp c) (q32 j)) (O0 m c)) ∗ all (fun k => oAt c (fzb (zp c) k) (O0 m c))) := by
    show giveZ m (zp c) = _
    unfold giveZ; rw [zp_zp]
  rw [e]

/-! ## The main loop's start and end -/

theorem Inv_intro (c : Dev nD) : iprop(ow c (Om c 0 0) ∗ all (Chunk m c) ∗ all (Free (F := F) c) ∗ all (svLa (F := F) c) ∗ all (Direct m c) ∗ all (Fwd m c))
    ⊢ Inv m c 0 := by
  unfold Inv outD sentD
  rw [show (0 : ℕ) - 2 = 0 from rfl, finFrom_zero, finFrom_zero, finFrom_zero, finUpTo_zero, finUpTo_zero, win_zero]
  have e : ∀ {I : Type} (Φ : I → sProp 𝕄), bigSep ∅ Φ = iprop(emp) := fun _ => rfl
  rw [e, e, e, e, e]
  iintro ⟨HO, HC, HF, HL, HD, HW⟩
  iclose

theorem Inv_elim (c : Dev nD) : Inv m c 42 ⊢ iprop(ow c 0 ∗ all (ChunkDone m c) ∗ all (svLa (F := F) c)
    ∗ (Flying m c 40 ∗ Flying m c 41 ∗ Flying m c 38 ∗ Flying m c 39) ∗ outD m c 38 ∗ all (SentDone (F := F) c) ∗ all (FwdDone (F := F) c)) := by
  unfold Inv sentD
  rw [show (42 : ℕ) - 2 = 40 from rfl, show (42 : ℕ) - 4 = 38 from rfl, Om_end, win_42, fam_insert (by decide), fam_insert (by decide),
    fam_insert (by decide), fam_insert (by decide), finUpTo_self, finUpTo_of_le (show 32 ≤ 38 by omega), finUpTo_of_le (show 32 ≤ 40 by omega)]
  iintro ⟨HO, _, HC, _, HL, ⟨H0, H1, H2, H3, _⟩, Ho, Hs, _, _, HF⟩
  iclose

/-- The last four chunks complete the device's own blocks. -/
theorem outD_end (c : Dev nD) : iprop(outD m c 38 ∗ oAt c (ob c 38) (O m c) ∗ oAt c (ob c 39) (O m c) ∗ oAt c (ob c 40) (O m c) ∗ oAt c (ob c 41) (O m c))
    ⊢ all (fun i => oAt c (ob c i) (O m c)) := by
  have e : all (fun i => oAt c (ob c i) (O m c)) = outD m c 42 := by unfold outD; rw [finUpTo_self]
  have e41 : outD m c 42 = iprop(oAt c (ob c 41) (O m c) ∗ outD m c 41) := outD_succ m c 41
  have e40 : outD m c 41 = iprop(oAt c (ob c 40) (O m c) ∗ outD m c 40) := outD_succ m c 40
  have e39 : outD m c 40 = iprop(oAt c (ob c 39) (O m c) ∗ outD m c 39) := outD_succ m c 39
  have e38 : outD m c 39 = iprop(oAt c (ob c 38) (O m c) ∗ outD m c 38) := outD_succ m c 38
  rw [e, e41, e40, e39, e38]
  iintro ⟨H, H1, H2, H3, H4⟩
  iclose

/-! ## The body -/

/-- What is set aside during the main loop: the waits for the sends across `x`, and those the forwards leave. -/
def Aside (c : Dev nD) : sProp 𝕄 :=
  iprop(all (fun i => cr c (.xs i)) ∗ all (fun i => at0 c (.xs i)) ∗ sv c .bar
    ∗ all (fun k => at0 c (.zs (f11 k))) ∗ all (fun k => cr c (.zr (f11 k))) ∗ all (fun k => at0 c (.zr (f11 k)))
    ∗ all (fun k => at0 c (.ys (f11 k))) ∗ all (fun k => cr c (.yr (f11 k))) ∗ all (fun k => at0 c (.yr (f11 k)))
    ∗ all (offMod 0 (arrY c)) ∗ all (offMod 1 (arrZ c)))

omit [FloatOps F] in
theorem arrY_intro (c : Dev nD) : iprop(all (fun j => cr c (.yr (s32 j))) ∗ all (fun j => at0 (F := F) c (.yr (s32 j))))
    ⊢ iprop(all (onMod 0 (arrY c)) ∗ all (offMod 0 (arrY c))) := by
  rw [← all_mod, ← bigSep_sep']; exact BI.Entails.refl _
omit [FloatOps F] in
theorem arrZ_intro (c : Dev nD) : iprop(all (fun j => cr c (.zr (s32 j))) ∗ all (fun j => at0 (F := F) c (.zr (s32 j))))
    ⊢ iprop(all (onMod 1 (arrZ c)) ∗ all (offMod 1 (arrZ c))) := by
  rw [← all_mod, ← bigSep_sep']; exact BI.Entails.refl _

/-- The barrier and the sends across `x`. -/
theorem front (c : Dev nD) {k : KProg F} {Q : PUnit → sProp 𝕄} :
    iprop(recs m ∗ Start m c) ⊢ iprop((Inv m c 0 ∗ Aside (F := F) c -∗ WP c k Q)
      -∗ WP c (pSignal (xp c) >>= fun _ => pSignal (yp c) >>= fun _ => pSignal (zp c) >>= fun _ => pBarWait >>= fun _ =>
          loop (at_ (pXSend c)) 42 0 k) Q) := by
  have hat := all_CK (at0 (F := F) c)
  unfold Start outs toks creds
  rw [hat, all_43 (fun q => tk c (.ys q)), all_43 (fun q => tk (yp c) (.yr q)), all_43 (fun q => tk c (.zs q)), all_43 (fun q => tk (zp c) (.zr q)),
    all_43 (fun q => cr c (.yr q)), all_43 (fun q => cr c (.zr q)), all_43 (fun q => at0 c (.ys q)), all_43 (fun q => at0 c (.yr q)),
    all_43 (fun q => at0 c (.zs q)), all_43 (fun q => at0 c (.zr q))]
  iintro ⟨#HR, HO, ⟨Hxo, Hxm⟩, ⟨Hoo, Hoy, Hoz, Hfz, Hfy⟩, Hr, HF, HL, ⟨⟨Hbx, Hby, Hbz⟩, Htxs, Htxr, ⟨Htys, Htysf⟩, ⟨Htyr, Htyrf⟩, ⟨Htzs, Htzsf⟩, ⟨Htzr, Htzrf⟩⟩,
    ⟨Hcb, Hcxr, ⟨Hcyr, Hcyrf⟩, ⟨Hczr, Hczrf⟩⟩, ⟨Hab, Haxs, Haxr, ⟨Hays, Haysf⟩, ⟨Hayr, Hayrf⟩, ⟨Hazs, Hazsf⟩, ⟨Hazr, Hazrf⟩⟩⟩ HK
  unfold O₀
  ihave Gx := (give_x m c) $$ Hr
  ihave Gy := (give_y m c) $$ [Hoy Hfy]
  · iclose
  ihave Gz := (give_z m c) $$ [Hoz Hfz]
  · iclose
  iapplyF (seq (t_signal m c (xp c) 0 _)); iintro HO
  iapplyF (seq (t_signal m c (yp c) 1 _)); iintro HO
  iapplyF (seq (t_signal m c (zp c) 2 _)); iintro HO
  iapplyF (seq (t_barWait m c _ (above_O₁ c 0))); iintro ⟨HO, Hsb, Gx, Gy, Gz⟩
  unfold giveX giveY giveZ
  icases Gx with ⟨%f, Gx⟩
  icases Gy with ⟨Gy, Gyf⟩
  icases Gz with ⟨Gz, Gzf⟩
  ihave HX := (Entails.of_eq (all_XNeed m c f).symm) $$ [Hxo Gx Htxs Htxr]
  · iclose
  iapplyF (xsends m c f); iintro ⟨HO, Hcxs⟩
  ihave HC := (Entails.of_eq (all_Chunk m c).symm) $$ [Hxm Hoo Hcxr Haxr]
  · iclose
  ihave HD := (Entails.of_eq (all_Direct m c).symm) $$ [Gy Htys Htyr Hays Gz Htzs Htzr Hazs]
  · iclose
  icases (arrY_intro c) $$ [Hcyr Hayr] with ⟨Hy0, Hy1⟩
  · iclose
  icases (arrZ_intro c) $$ [Hczr Hazr] with ⟨Hz0, Hz1⟩
  · iclose
  ihave Hnz := (Entails.of_eq (all_FzNeed m c).symm) $$ [Gzf Htzsf Htzrf]
  · iclose
  ihave Hny := (Entails.of_eq (all_FyNeed m c).symm) $$ [Gyf Htysf Htyrf]
  · iclose
  ihave HW := (Entails.of_eq (all_Fwd m c).symm) $$ [Hy0 Hnz Hz0 Hny]
  · iclose
  ihave HI := (Inv_intro m c) $$ [HO HC HF HL HD HW]
  · iclose
  iapply HK
  unfold Aside
  iclose

omit [FloatOps F] in
theorem zip4 {I : Type} [Fintype I] (A B C D : I → sProp 𝕄) :
    iprop((all A ∗ all B) ∗ (all C ∗ all D)) = all (fun i => iprop((A i ∗ B i) ∗ (C i ∗ D i))) := by
  show _ = bigSep Finset.univ _
  simp only [bigSep_sep']

/-- The waits at the end. -/
theorem back (c : Dev nD) :
    iprop(recs m ∗ Inv m c 42 ∗ Aside (F := F) c) ⊢ WP c (pStWait c 40 >>= fun _ => pStWait c 41 >>= fun _ => pStWait c 38 >>= fun _ => pStWait c 39 >>= fun _ =>
          loop (at_ (tailFz c)) 11 0 <| loop (at_ (tailFy c)) 11 0 <| loop (at_ (tailQ c)) 32 0 <| loop (at_ (pXsWait c)) 42 0 <| pure ⟨⟩)
        (fun _ => Done m c) := by
  iintro ⟨#HR, HI, HA⟩
  icases (Inv_elim m c) $$ HI with ⟨HO, HC, HL, ⟨H40, H41, H38, H39⟩, Hout, HS, HF⟩
  unfold Aside
  icases HA with ⟨Hcxs, Haxs, Hsb, Hazs, Hczr, Hazr, Hays, Hcyr, Hayr, Hy1, Hz1⟩
  iapplyF (seq (st_end m c 40 (by decide))); iintro ⟨Hf0, Ho40, HO⟩
  iapplyF (seq (st_end m c 41 (by decide))); iintro ⟨Hf1, Ho41, HO⟩
  iapplyF (seq (st_end m c 38 (by decide))); iintro ⟨Hf2, Ho38, HO⟩
  iapplyF (seq (st_end m c 39 (by decide))); iintro ⟨Hf3, Ho39, HO⟩
  ihave Hout := (outD_end m c) $$ [Hout Ho38 Ho39 Ho40 Ho41]
  · iclose
  ihave HFree := (Entails.of_eq (all_4 (Free c)).symm) $$ [Hf0 Hf1 Hf2 Hf3]
  · isplitl [Hf0]; · iexact Hf0
    isplitl [Hf1]; · iexact Hf1
    isplitl [Hf2]; · iexact Hf2
    iexact Hf3
  icases (Entails.of_eq (all_ChunkDone m c)) $$ HC with ⟨Hxm, Hsxr, Hr⟩
  icases (Entails.of_eq (all_SentDone c)) $$ HS with ⟨Hsys, Hszs⟩
  icases (Entails.of_eq (all_FwdDone c)) $$ HF with ⟨⟨Hsyr0, Hczs⟩, ⟨Hszr1, Hcys⟩⟩
  ihave HZ := (Entails.of_eq (zip4 (fun k => cr c (.zs (f11 k))) (fun k => at0 c (.zs (f11 k))) (fun k => cr c (.zr (f11 k))) (fun k => at0 c (.zr (f11 k))))) $$ [Hczs Hazs Hczr Hazr]
  · iclose
  iapply (loop_map m (tailFz c) (ow c 0) _ _ (fz_end m c)) $$ [HO HZ]
  · isplitr; · iexact HR
    isplitl [HO]; · iexact HO
    iexact HZ
  iintro ⟨HO, HZ⟩
  icases (Entails.of_eq (zip4 (fun k => sv c (.zs (f11 k))) (fun k => oAt c (fzb c k) (O m c)) (fun k => sv c (.zr (f11 k))) (fun k => oAt c (fzb (zp c) k) (O m c))).symm) $$ HZ with ⟨⟨Hszsf, Hoz⟩, ⟨Hszrf, Hofz⟩⟩
  ihave HY := (Entails.of_eq (zip4 (fun k => cr c (.ys (f11 k))) (fun k => at0 c (.ys (f11 k))) (fun k => cr c (.yr (f11 k))) (fun k => at0 c (.yr (f11 k))))) $$ [Hcys Hays Hcyr Hayr]
  · iclose
  iapply (loop_map m (tailFy c) (ow c 0) _ _ (fy_end m c)) $$ [HO HY]
  · isplitr; · iexact HR
    isplitl [HO]; · iexact HO
    iexact HY
  iintro ⟨HO, HY⟩
  icases (Entails.of_eq (zip4 (fun k => sv c (.ys (f11 k))) (fun k => oAt c (fyb c k) (O m c)) (fun k => sv c (.yr (f11 k))) (fun k => oAt c (fyb (yp c) k) (O m c))).symm) $$ HY with ⟨⟨Hsysf, Hoy⟩, ⟨Hsyrf, Hofy⟩⟩
  ihave HQ := (Entails.of_eq (all_QNeed c).symm) $$ [Hy1 Hz1]
  · iclose
  iapply (loop_map m (tailQ c) (ow c 0) _ _ (q_end m c)) $$ [HO HQ]
  · isplitr; · iexact HR
    isplitl [HO]; · iexact HO
    iexact HQ
  iintro ⟨HO, HQ⟩
  icases (Entails.of_eq (all_QDone m c)) $$ HQ with ⟨⟨Hsyr1, Hoy1⟩, ⟨Hszr0, Hoz1⟩⟩
  ihave HX := (Entails.of_eq (bigSep_sep' Finset.univ _ _).symm) $$ [Hcxs Haxs]
  · iclose
  iapply (loop_map m (pXsWait c) (ow c 0) _ _ (xs_end m c)) $$ [HO HX]
  · isplitr; · iexact HR
    isplitl [HO]; · iexact HO
    iexact HX
  iintro ⟨HO, HX⟩
  icases (Entails.of_eq (bigSep_sep' Finset.univ _ _)) $$ HX with ⟨Hsxs, Hxo⟩
  irwh [fz_back] at Hoz
  irwh [fy_back] at Hoy
  ihave Hoyy := (Entails.of_eq (all_mod 0 (fun j => oAt c (ob (yp c) (q32 j)) (O m c))).symm) $$ [Hoz Hoy1]
  · iclose
  ihave Hozz := (Entails.of_eq (all_mod 1 (fun j => oAt c (ob (zp c) (q32 j)) (O m c))).symm) $$ [Hoy Hoz1]
  · iclose
  ihave Hsyr := (Entails.of_eq (all_mod 0 (fun j => sv c (.yr (s32 j)))).symm) $$ [Hsyr0 Hsyr1]
  · iclose
  ihave Hszr := (Entails.of_eq (all_mod 1 (fun j => sv c (.zr (s32 j)))).symm) $$ [Hszr1 Hszr0]
  · iclose
  ihave Hys := (Entails.of_eq (all_43 (fun q => sv c (.ys q))).symm) $$ [Hsys Hsysf]
  · iclose
  ihave Hyr := (Entails.of_eq (all_43 (fun q => sv c (.yr q))).symm) $$ [Hsyr Hsyrf]
  · iclose
  ihave Hzs := (Entails.of_eq (all_43 (fun q => sv c (.zs q))).symm) $$ [Hszs Hszsf]
  · iclose
  ihave Hzr := (Entails.of_eq (all_43 (fun q => sv c (.zr q))).symm) $$ [Hszr Hszrf]
  · iclose
  ihave Hsv := (Entails.of_eq (all_CK (sv c)).symm) $$ [Hsb Hsxs Hsxr Hys Hyr Hzs Hzr]
  · iclose
  unfold Done outs
  iapply (last (pure_spec (P := ow c 0))) $$ HO; iintro HO
  iclose

/-- The body of device `c`. -/
theorem body_spec (c : Dev nD) : iprop(recs m ∗ Start m c) ⊢ WP c (rolled c) (fun _ => Done m c) := by
  iintro ⟨#HR, HS⟩
  iapply (front m c) $$ [HS]
  · iclose
  iintro ⟨HI, HA⟩
  iapply (loop_rule m (turn c) (Inv m c) (turn_spec m c)) $$ [HI]
  · iclose
  iintro HI
  iapply (back m c)
  iclose

end Cert.KernelIdeal.Body

end
-- ==== Proof.Fund.lean ====
/- What the launch deals out: the cells and their tokens, and to each device the tokens it signals and sends with. -/
module

public import proofs.«01_k».proof.Proof.Whole

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

/-! ## The kernel's own semaphores -/

/-- The cells but the barrier. -/
abbrev CR : Type := Fin 42 ⊕ (Fin 42 ⊕ (Fin 43 ⊕ (Fin 43 ⊕ (Fin 43 ⊕ Fin 43))))
abbrev ckR (r : CR) : CK := CK.ofSum (.inr r)
/-- The kernel's own semaphores: the transfers', and those of the local copies. -/
abbrev OS : Type := CR ⊕ (Fin 4 ⊕ Fin 4)
def osem : OS → SemLoc sig
  | .inl r => csem (ckR r)
  | .inr (.inl s) => .dma (la s)
  | .inr (.inr s) => .dma (st s)

theorem la_st_inj : ∀ a b : Fin 4 ⊕ Fin 4, osem (.inr a) = osem (.inr b) → a = b := by decide +kernel
theorem ofSum_inj : Function.Injective CK.ofSum := CK.sumEq.injective
theorem decode_local (a : Fin 4 ⊕ Fin 4) : decode (osem (.inr a)) = none := by
  rcases a with s | s
  · exact decode_la s
  · exact decode_st s
theorem osem_inj : Function.Injective osem := by
  rintro (r | a) (r' | a') h
  · exact congrArg Sum.inl (Sum.inr.inj (ofSum_inj (csem_inj h)))
  · exact absurd ((decode_csem (ckR r)).symm.trans ((congrArg decode h).trans (decode_local a'))) (by simp)
  · exact absurd ((decode_csem (ckR r')).symm.trans ((congrArg decode h.symm).trans (decode_local a))) (by simp)
  · exact congrArg Sum.inr (la_st_inj a a' h)
theorem osem_scoped (k : OS) : (osem k).isScoped .tc = true := by
  rcases k with r | a
  · rcases r with i | i | i | i | i | i <;> revert i <;> decide +kernel
  · revert a; decide +kernel
theorem ownSemFacts : Pipeline.OwnSemFacts cfg0.spec osem := ⟨osem_scoped, osem_inj, fun _ w => w.elim0⟩

omit [FloatOps F] in
theorem all_ckR (Φ : CK → sProp 𝕄) : all Φ = iprop(Φ .bar ∗ all (fun r => Φ (ckR r))) := by
  show bigSep Finset.univ Φ = _
  rw [bigSep_univ_equiv CK.sumEq, bigSep_univ_sum, bigSep_univ_eq_bigSepL [()] (by decide) (by decide), bigSepL_singleton]
  rfl

omit [FloatOps F] in
/-- The kernel's own semaphores at zero; -/
theorem ownSems0_eq (c : Dev nD) : (Pipeline.ownSems0 (Ix := Unit) (Name := ℕ) (U := UU) (Lvl := ℕ) (Val := Elt F) (τ := τ) osem c : sProp 𝕄)
    = iprop(all (fun r => sv c (ckR r)) ∗ (all (svLa (F := F) c) ∗ all (svSt (F := F) c))) := by
  unfold Pipeline.ownSems0
  rw [bigSep_univ_sum, bigSep_univ_sum (fun a : Fin 4 ⊕ Fin 4 => (semVal ((c : Thread nD τ), osem (.inr a)) 0 : sProp 𝕄))]; rfl
omit [FloatOps F] in
/-- the barrier's, the one semaphore that outlives the kernel. -/
theorem unscopedSems0_eq (c : Dev nD) : (unscopedSems0 c : sProp 𝕄) = sv c .bar := by
  unfold unscopedSems0; rw [bigSep_eq_bigSepL_of_eq [SemLoc.reg barS] (by decide +kernel) (by decide)]; rfl
omit [FloatOps F] in
theorem sems_eq (c : Dev nD) :
    iprop(Pipeline.ownSems0 (Ix := Unit) (Name := ℕ) (U := UU) (Lvl := ℕ) (Val := Elt F) (τ := τ) osem c ∗ unscopedSems0 c)
      ⊣⊢ iprop(all (sv (F := F) c) ∗ (all (svLa (F := F) c) ∗ all (svSt (F := F) c))) := by
  rw [ownSems0_eq, unscopedSems0_eq, all_ckR (sv c)]
  constructor
  · iintro ⟨⟨H, H1⟩, HB⟩; iclose
  · iintro ⟨⟨HB, H⟩, H1⟩; iclose

/-! ## Cells and tokens -/

def theCells : Finset (GSem nD τ sig) :=
  Finset.univ.map ⟨fun ck : Dev nD × CK => cell ck.1 ck.2, fun a b h => Prod.ext (cell_eq_iff.mp h).1 (cell_eq_iff.mp h).2⟩
/-- A device's own cells' duties: its barrier's three, one at every other cell. -/
def tokOf (x : Dev nD × (Fin 3 ⊕ CR)) : GSem nD τ sig × ℕ × Fin 3 :=
  match x.2 with
  | .inl d => (cell x.1 .bar, 0, d)
  | .inr r => (cell x.1 (ckR r), 0, 0)
theorem tokOf_inj : Function.Injective tokOf := by
  rintro ⟨c, d | r⟩ ⟨c', d' | r'⟩ h
  · have h1 := (cell_eq_iff.mp (congrArg Prod.fst h)).1
    have h2 : d = d' := congrArg (fun x => x.2.2) h
    exact Prod.ext h1 (congrArg Sum.inl h2)
  · exact absurd (ofSum_inj (a₁ := .inl ()) (a₂ := .inr r') (cell_eq_iff.mp (congrArg Prod.fst h)).2) (by simp)
  · exact absurd (ofSum_inj (a₁ := .inr r) (a₂ := .inl ()) (cell_eq_iff.mp (congrArg Prod.fst h)).2) (by simp)
  · have h1 := cell_eq_iff.mp (congrArg Prod.fst h)
    exact Prod.ext h1.1 (congrArg Sum.inr (Sum.inr.inj (ofSum_inj h1.2)))
def theToks : Finset (GSem nD τ sig × ℕ × Fin 3) := Finset.univ.map ⟨tokOf, tokOf_inj⟩

/-- What the launch starts from, beside the machine. -/
def u₀ : UU :=
  (initOf (Pipeline.cells (nD := nD) (τ := τ) cfgs cellOf_inj) (Pipeline.launchToks (nD := nD) (τ := τ) cfgs cellOf_inj), (initOf theCells theToks, 1))

/-- The tokens of device `c`'s own cells. -/
def ownToks (c : Dev nD) : sProp 𝕄 :=
  iprop((dutyTok ER (cell c .bar) 0 0 ∗ dutyTok ER (cell c .bar) 0 1 ∗ dutyTok ER (cell c .bar) 0 2)
    ∗ all (fun i => tk c (.xs i)) ∗ all (fun i => tk c (.xr i)) ∗ all (fun q => tk c (.ys q)) ∗ all (fun q => tk c (.yr q))
    ∗ all (fun q => tk c (.zs q)) ∗ all (fun q => tk c (.zr q)))

omit [FloatOps F] in
/-- Every token goes to the device that signals or sends with it. -/
theorem toks_dealt : all (ownToks (F := F)) ⊢ all (toks (F := F)) := by
  show (bigSep Finset.univ fun c => ownToks c) ⊢ bigSep Finset.univ fun c => toks c
  unfold ownToks toks
  simp only [bigSep_sep']
  rw [bigSep_univ_equiv xEq (fun c : Dev nD => (dutyTok ER (cell c .bar) 0 0 : sProp 𝕄)),
    bigSep_univ_equiv yEq (fun c : Dev nD => (dutyTok ER (cell c .bar) 0 1 : sProp 𝕄)),
    bigSep_univ_equiv zEq (fun c : Dev nD => (dutyTok ER (cell c .bar) 0 2 : sProp 𝕄)),
    bigSep_univ_equiv xEq (fun c : Dev nD => (all (fun i => tk c (.xr i)) : sProp 𝕄)),
    bigSep_univ_equiv yEq (fun c : Dev nD => (all (fun i => tk c (.yr i)) : sProp 𝕄)),
    bigSep_univ_equiv zEq (fun c : Dev nD => (all (fun i => tk c (.zr i)) : sProp 𝕄))]
  exact BI.Entails.refl _

/-- Cell `k` of device `c` has reached its round. -/
abbrev rd0 (c : Dev nD) (k : CK) : sProp 𝕄 := reached ER (cell c k) 0

/-- What the launch element deals device `c`. -/
def G (c : Dev nD) : sProp 𝕄 :=
  iprop(all (fun k => roundState ER (kRd m) (cell c k) 0) ∗ (all (fun k => reached ER (cell c k) 0) ∗ all (at0 c)) ∗ ownToks c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => all fun k => Φ (cell c k) := by
    unfold theCells; rw [BI.bigSep_map, bigSep_univ_prod]; rfl
  have hT : bigSep theToks (fun x => (dutyTok ER x.1 x.2.1 x.2.2 : sProp 𝕄)) = bigSep Finset.univ fun c : Dev nD => ownToks c := by
    unfold theToks; rw [BI.bigSep_map, bigSep_univ_prod]
    refine bigSep_congr fun c _ => ?_
    unfold ownToks
    rw [bigSep_univ_sum, bigSep_univ_sum, bigSep_univ_sum, bigSep_univ_sum, bigSep_univ_sum, bigSep_univ_sum,
      bigSep_univ_eq_bigSepL [0, 1, 2] (by decide) (by decide)]
    rfl
  iintro H
  imod (Rounds.fund ER (kRd m) theCells theToks) $$ H with ⟨Hst, Hr, Hat, Htok⟩
  imodintro
  ihave Hst := (Entails.of_eq (hX fun g => roundState ER (kRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hr] <;> iassumption
  iexact Htok

/-- What device `c` has once every cell's invariant stands: the shared facts but the levels, and its own part. -/
def facts (K : Dev nD × CK → ℕ) : sProp 𝕄 :=
  iprop((bigSep Finset.univ fun ck : Dev nD × CK => cellInv ER (kRd m) (K ck) (cell ck.1 ck.2))
    ∗ bigSep Finset.univ fun ck : Dev nD × CK => reached ER (cell ck.1 ck.2) 0)
instance facts_persistent (K : Dev nD × CK → ℕ) : BI.Persistent (facts m K) := by unfold facts; infer_instance
def part (c : Dev nD) : sProp 𝕄 := iprop(toks (F := F) c ∗ all (at0 (F := F) c) ∗ all (svLa (F := F) c) ∗ all (svSt (F := F) c))
def G' (c : Dev nD) : sProp 𝕄 := iprop((∃ K, facts m K) ∗ part c)

omit [FloatOps F] in
theorem all_part : all (part (F := F)) = iprop((bigSep Finset.univ fun c => toks (F := F) c) ∗ (bigSep Finset.univ fun c => all (at0 (F := F) c))
    ∗ (bigSep Finset.univ fun c => all (svLa (F := F) c)) ∗ (bigSep Finset.univ fun c => all (svSt (F := F) c))) := by
  show (bigSep Finset.univ fun c => part c) = _
  simp only [part, bigSep_sep']

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(all (fun k => iprop(∃ κ : ℕ, cellInv ER (kRd m) κ (cell c k)))
          ∗ all (rd0 (F := F) c) ∗ ownToks c ∗ all (at0 (F := F) c) ∗ all (svLa (F := F) c) ∗ all (svSt (F := F) c)) := by
  unfold G
  iintro ⟨Hos, Hus, Hst, ⟨Hr, Hat⟩, Htok⟩
  ihave Hv := (sems_eq (F := F) c).1 $$ [Hos Hus]
  · isplitl [Hos] <;> iassumption
  icases Hv with ⟨Hv, Hla, Hst'⟩
  imod (show iprop(all (sv (F := F) c) ∗ all (fun k => roundState ER (kRd m) (cell c k) 0))
      ⊢ (|={Set.univ}=> all (fun k => iprop(∃ κ : ℕ, cellInv ER (kRd m) κ (cell c k))) : sProp 𝕄) from by
        show iprop((bigSep Finset.univ fun k => sv c k) ∗ (bigSep Finset.univ fun k => roundState ER (kRd m) (cell c k) 0)) ⊢ _
        rw [← bigSep_sep']
        exact (bigSep_mono fun k _ => (Rounds.body_intro ER (kRd m) (cell c k)).trans inv_alloc).trans (bigSep_fupd _ _)) $$ [Hv Hst] with Hinv
  · isplitl [Hv] <;> iassumption
  imodintro
  iclose

omit [FloatOps F] in
/-- A fact that may be used again serves every member of a family. -/
theorem all_with {I : Type} [DecidableEq I] [Fintype I] {A : sProp 𝕄} [BI.Persistent A] {Φ Ψ : I → sProp 𝕄}
    (h : ∀ i, iprop(A ∗ Φ i) ⊢ Ψ i) : iprop(A ∗ all Φ) ⊢ all Ψ :=
  (sep_mono_left (BI.bigSep_of_persistent Finset.univ A)).trans (by
    show iprop((bigSep Finset.univ fun _ : I => A) ∗ bigSep Finset.univ Φ) ⊢ _
    rw [← bigSep_sep']; exact bigSep_mono fun i _ => h i)

theorem regroup :
    (bigSep Finset.univ fun c : Dev nD => iprop(all (fun k => iprop(∃ κ : ℕ, cellInv ER (kRd m) κ (cell c k)))
          ∗ all (rd0 (F := F) c) ∗ ownToks c ∗ all (at0 (F := F) c) ∗ all (svLa (F := F) c) ∗ all (svSt (F := F) c)) : sProp 𝕄)
      ⊢ bigSep Finset.univ (G' m) := by
  simp only [bigSep_sep']
  rw [← bigSep_univ_prod (fun ck : Dev nD × CK => iprop(∃ κ : ℕ, cellInv ER (kRd m) κ (cell ck.1 ck.2))),
    ← bigSep_univ_prod (fun ck : Dev nD × CK => (reached ER (cell ck.1 ck.2) 0 : sProp 𝕄))]
  iintro ⟨HI, #HR, Htok, Hat, Hla, Hst⟩
  ihave HK := (BI.bigSep_exists_pi Finset.univ (fun (ck : Dev nD × CK) (κ : ℕ) => (cellInv ER (kRd m) κ (cell ck.1 ck.2) : sProp 𝕄))) $$ HI
  icases HK with ⟨%K, #HI⟩
  ihave Htok := (toks_dealt (F := F)) $$ Htok
  iapply (all_with (A := facts m K) (Φ := part (F := F)) (Ψ := G' m) fun c => by
    unfold G'
    iintro ⟨#HF, HP⟩
    isplitr; · iexists K; iexact HF
    iexact HP)
  isplitr
  · unfold facts; isplitl; · iexact HI
    iexact HR
  · iapply (Entails.of_eq (all_part (F := F)).symm)
    iclose

/-- The step all devices take together: every cell's invariant, then to each device its tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Body

end
-- ==== Proof.Credits.lean ====
/- What all devices together owe a cell at launch is what its device waits for there. -/
module

public import proofs.«01_k».proof.Proof.Fund

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

/-- What is owed at cell `k` of device `c`. -/
def at_cell (c : Dev nD) (k : CK) : CellTallies nD τ sig Unit →+ ℕ where
  toFun T := T (cell c k) ()
  map_zero' := rfl
  map_add' _ _ := rfl

/-- One tally of every device, each at another device's cell. -/
theorem sum_tally (c : Dev nD) (k k' : CK) (e : Dev nD ≃ Dev nD) (n : ℕ) :
    ∑ d, at_cell c k (tallyAt (cell (e d) k') () n) = (if k = k' then 1 else 0) * n := by
  rw [Equiv.sum_comp e (fun d => at_cell c k (tallyAt (cell d k') () n)), Fintype.sum_eq_single c]
  · show tallyAt (cell c k') () n (cell c k) () = _
    rw [tallyAt_apply]
    by_cases h : k = k'
    · rw [if_pos h, if_pos ⟨by rw [h], rfl⟩, one_mul]
    · rw [if_neg h, if_neg (fun hh => h (cell_eq_iff.mp hh.1).2), zero_mul]
  · intro d hd
    show tallyAt (cell d k') () n (cell c k) () = 0
    rw [tallyAt_apply, if_neg (fun hh => hd (cell_eq_iff.mp hh.1).1.symm)]

theorem sum_x (c : Dev nD) (k k' : CK) (n : ℕ) : ∑ d, at_cell c k (tallyAt (cell (xp d) k') () n) = (if k = k' then 1 else 0) * n := sum_tally c k k' xEq n
theorem sum_y (c : Dev nD) (k k' : CK) (n : ℕ) : ∑ d, at_cell c k (tallyAt (cell (yp d) k') () n) = (if k = k' then 1 else 0) * n := sum_tally c k k' yEq n
theorem sum_z (c : Dev nD) (k k' : CK) (n : ℕ) : ∑ d, at_cell c k (tallyAt (cell (zp d) k') () n) = (if k = k' then 1 else 0) * n := sum_tally c k k' zEq n

theorem sum_fwd (c : Dev nD) (k : CK) (j : Fin 32) : ∑ d, at_cell c k (fwdDebt d j)
    = (if j.val % 3 = 0 then (if k = .zr (f11 (third j)) then 1 else 0)
        else if j.val % 3 = 1 then (if k = .yr (f11 (third j)) then 1 else 0) else 0) * N := by
  unfold fwdDebt
  by_cases h0 : j.val % 3 = 0
  · simp only [if_pos h0]; exact sum_tally c k _ zEq N
  by_cases h1 : j.val % 3 = 1
  · simp only [if_neg h0, if_pos h1]; exact sum_tally c k _ yEq N
  · simp only [if_neg h0, if_neg h1, map_zero, Finset.sum_const_zero, zero_mul]

/-- How many transfers end at a cell of kind `k`. -/
def times (k : CK) : ℕ :=
  ((∑ j : Fin 32, (if j.val % 3 = 0 then (if k = .zr (f11 (third j)) then 1 else 0)
        else if j.val % 3 = 1 then (if k = .yr (f11 (third j)) then 1 else 0) else 0))
    + (∑ j : Fin 32, if k = .zr (s32 j) then 1 else 0) + (∑ j : Fin 32, if k = .yr (s32 j) then 1 else 0)) + ∑ i : Fin 42, if k = .xr i then 1 else 0

theorem sum_O₀ (c : Dev nD) (k : CK) : ∑ d, at_cell c k (O₀ d) = times k * N + (if k = .bar then 1 else 0) * 3 := by
  unfold O₀ O₁ Om Ox Oy Oz Of times
  simp only [finFrom_zero, map_add, map_sum, Finset.sum_add_distrib]
  rw [Finset.sum_comm (f := fun d j => at_cell c k (fwdDebt d j)),
    Finset.sum_comm (f := fun d j => at_cell c k (tallyAt (cell (zp d) (.zr (s32 j))) () N)),
    Finset.sum_comm (f := fun d j => at_cell c k (tallyAt (cell (yp d) (.yr (s32 j))) () N)),
    Finset.sum_comm (f := fun d j => at_cell c k (tallyAt (cell (xp d) (.xr j)) () N)),
    Finset.sum_congr rfl fun j _ => sum_fwd c k j,
    Finset.sum_congr rfl fun j _ => sum_z c k (.zr (s32 j)) N,
    Finset.sum_congr rfl fun j _ => sum_y c k (.yr (s32 j)) N,
    Finset.sum_congr rfl fun j _ => sum_x c k (.xr j) N,
    sum_z c k .bar 1, sum_y c k .bar 1, sum_x c k .bar 1]
  simp only [← Finset.sum_mul, add_mul]
  generalize (if k = CK.bar then 1 else 0 : ℕ) = b
  omega

theorem times_bar : times .bar = 0 := by decide +kernel
theorem times_xr (i : Fin 42) : times (.xr i) = 1 := by revert i; decide +kernel
theorem times_yr (q : Fin 43) : times (.yr q) = 1 := by revert q; decide +kernel
theorem times_zr (q : Fin 43) : times (.zr q) = 1 := by revert q; decide +kernel

omit [FloatOps F] in
/-- The launch's right to wait at a cell. -/
theorem cred_cell (c : Dev nD) (k : CK) (n : ℕ) (h : times k * N + (if k = .bar then 1 else 0) * 3 = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, ← h]
  exact sum_O₀ c k

omit [FloatOps F] in
theorem creds_launch (c : Dev nD) : (Pipeline.launchCred O₀ c : sProp 𝕄) ⊢ creds c := by
  have h : (Pipeline.launchCred O₀ c : sProp 𝕄)
      ⊢ all fun k : CK => cred (tallyOn (cell c k) (launchCredit (Pipeline.owing O₀) 0 (cell c k))) := by
    unfold Pipeline.launchCred
    refine (BI.bigSep_subset (Finset.subset_univ (Finset.univ.map ⟨csem, csem_inj⟩))).trans ?_
    rw [BI.bigSep_map]
    exact BI.Entails.refl _
  refine h.trans ?_
  rw [all_CK]
  unfold creds
  have ex : (fun i : Fin 42 => (cred (tallyOn (cell c (.xr i)) (launchCredit (Pipeline.owing O₀) 0 (cell c (.xr i)))) : sProp 𝕄)) = fun i => cr c (.xr i) :=
    funext fun i => congrArg cred (cred_cell c (.xr i) N (by rw [times_xr]; simp))
  have ey : (fun q : Fin 43 => (cred (tallyOn (cell c (.yr q)) (launchCredit (Pipeline.owing O₀) 0 (cell c (.yr q)))) : sProp 𝕄)) = fun q => cr c (.yr q) :=
    funext fun i => congrArg cred (cred_cell c (.yr i) N (by rw [times_yr]; simp))
  have ez : (fun q : Fin 43 => (cred (tallyOn (cell c (.zr q)) (launchCredit (Pipeline.owing O₀) 0 (cell c (.zr q)))) : sProp 𝕄)) = fun q => cr c (.zr q) :=
    funext fun i => congrArg cred (cred_cell c (.zr i) N (by rw [times_zr]; simp))
  rw [ex, ey, ez, cred_cell c .bar 3 (by rw [times_bar]; simp)]
  iintro ⟨H, _, Hx, _, Hy, _, Hz⟩
  iclose

end Cert.KernelIdeal.Body

end
-- ==== Proof.Run.lean ====
/- The run of all eight devices, for any float values: it ends, the inputs unchanged, each result what `O` says, every
   semaphore at zero. -/
module

public import proofs.«01_k».proof.Proof.Credits
public import Idealize.ShloMosaic.Lib.Pipeline.CollectiveSegs

@[expose] public section

set_option maxRecDepth 16384

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds
open Idealize.ShloMosaic.Transfers
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The kernel's one point -/

/-- All that device `c`'s body starts from but what it owes; -/
def Held (c : Dev nD) : sProp 𝕄 :=
  iprop((all (fun i => xAt m c (ob c i) (oth c)) ∗ all (fun i => xAt m c (ob c i) (mine c)))
    ∗ outs c (O0 m c) ∗ (∃ f, all fun i => rAt c i f) ∗ all (Free c) ∗ all (svLa (F := F) c) ∗ toks c ∗ creds c ∗ all (at0 c))
/-- and all that it leaves. -/
def Left (c : Dev nD) : sProp 𝕄 :=
  iprop((all (fun i => xAt m c (ob c i) (oth c)) ∗ all (fun i => xAt m c (ob c i) (mine c)))
    ∗ outs c (O m c) ∗ (all fun i => rAt c i (R m c)) ∗ all (Free c) ∗ all (svLa (F := F) c) ∗ all (sv c))
theorem Start_eq (c : Dev nD) : Start m c = iprop(ow c (O₀ c) ∗ Held m c) := rfl
theorem Done_eq (c : Dev nD) : Done m c = iprop(ow c 0 ∗ Left m c) := rfl

def Φ₀ (c : Dev nD) : sProp 𝕄 := iprop(recs m ∗ xRest m c ∗ Held m c)
def Φ₁ (c : Dev nD) : sProp 𝕄 := iprop(xRest m c ∗ Left m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem all_W (Φ : Fin cfg0.W → sProp 𝕄) : bigSep Finset.univ Φ = iprop(emp) := by
  have h : (Finset.univ : Finset (Fin cfg0.W)) = ∅ := Finset.univ_eq_empty (α := Fin 0)
  rw [h, BI.bigSep_empty]; rfl

/-- A device asks which it is. -/
theorem wp_which (c : Dev nD) (k : Dev nD → KProg F) (Q : PUnit → sProp 𝕄) : WP c (k c) Q ⊢ WP c (Prog.lift .deviceId >>= k) Q := by
  unfold WP
  rw [wp_bind]
  simp only [Prog.lift, wp_deviceId, wp_ret]
  exact fupd_intro

theorem body_run (c : Dev nD) : iprop(recs m ∗ Start m c) ⊢ WP c (bodyAt0 (F := F) t0_0) (fun _ => Done m c) := by
  rw [body_rolled]
  exact (body_spec m c).trans (wp_which c rolled _)

theorem body_eq (t : Fin cfg0.N) : defs₀ (F := F) .tc cfg0.body (cfg0.bodyArgs t (cfg0.slots t)) = bodyAt0 (F := F) t := rfl

theorem Φ_first (c : Dev nD) : (dats m 0 c).Φ (Fin.castSucc (t0_0 : Fin cfg0.N)) = Φ₀ m c := rfl
theorem Φ_after (c : Dev nD) : (dats m 0 c).Φ (Fin.succ (t0_0 : Fin cfg0.N)) = Φ₁ m c := rfl
theorem owed_first (c : Dev nD) : (dats m 0 c).owed (Fin.castSucc (t0_0 : Fin cfg0.N)) = O₀ c := rfl
theorem owed_after (c : Dev nD) : (dats m 0 c).owed (Fin.succ (t0_0 : Fin cfg0.N)) = 0 := rfl

theorem body_obligation (c : Dev nD) : BodyObligation (dats m 0 c) (defs₀ (F := F)) 𝒱₀ () Set.univ := fun t => by
  rw [show t = t0_0 from fin_N0 t, all_W, all_W, body_eq]
  unfold Dat.owesAt Pipeline.owesWithin
  rw [Φ_first, Φ_after, owed_first, owed_after]
  unfold Φ₀ Φ₁
  iintro ⟨⟨#HR, Hx, HH⟩, ⟨%W, _, HO⟩, _⟩
  iapply (last (body_run m c)) $$ [HH HO]
  · isplitr; · iexact HR
    rw [Start_eq]
    isplitl [HO]; · unfold ow; iexists W; iexact HO
    iexact HH
  rw [Done_eq]
  iintro ⟨HO, HL⟩
  unfold ow
  icases HO with ⟨%W', HO⟩
  isplitl [Hx HL]
  · iclose
  isplitl [HO]
  · iexists W'
    isplitr; · ipureintro; exact fun _ _ => Or.inl trivial
    iexact HO
  iempintro

/-! ## Into and out of the kernel -/

/-- What device `c` brings to the kernel beside its scratch buffers. -/
def start (c : Dev nD) : sProp 𝕄 :=
  iprop(recs m ∗ part c ∗ creds c ∗ (((c : Thread nD τ).loc main_arg0) ↦{fullShare} X m c) ∗ (((c : Thread nD τ).loc main_v1) ↦{fullShare} O0 m c))
/-- What it takes away. -/
def finish (c : Dev nD) : sProp 𝕄 :=
  iprop(unscopedSems0 c ∗ (((c : Thread nD τ).loc main_arg0) ↦{fullShare} X m c) ∗ (((c : Thread nD τ).loc main_v1) ↦{fullShare} O m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' facts
  iintro ⟨⟨Hx, Ho⟩, #Hlev, Hcr, -, ⟨%K, #HI, #HR⟩, HP⟩
  ihave Hc := (creds_launch (F := F) c) $$ Hcr
  imodintro
  unfold start
  isplitl
  · isplitr
    · unfold recs; iexists K
      isplitr; · iexact HI
      isplitr; · iexact HR
      iexact Hlev
    isplitl [HP]; · iexact HP
    isplitl [Hc]; · iexact Hc
    isplitl [Hx]; · iexact Hx
    iexact Ho
  · iempintro

omit [FloatOps F] in
/-- The accumulator slots and their store semaphores. -/
theorem all_Free (c : Dev nD) : all (Free (F := F) c) = iprop(all (fun s => iprop(∃ f, vAt (F := F) c s fullShare f)) ∗ all (svSt (F := F) c)) := by
  show (bigSep Finset.univ fun s => Free c s) = _
  simp only [Free, bigSep_sep']

omit [FloatOps F] in
theorem v_open (c : Dev nD) (f : Buf (Elt F) ((c : Thread nD τ).loc cc0_scratch1)) :
    (((c : Thread nD τ).loc cc0_scratch1) ↦{fullShare} f : sProp 𝕄) ⊢ all (fun s => iprop(∃ f, vAt (F := F) c s fullShare f)) := by
  rw [v_blocks]
  exact bigSep_mono fun s _ => show (vAt (F := F) c s fullShare f : sProp 𝕄) ⊢ iprop(∃ f, vAt (F := F) c s fullShare f) from by
    iintro H; iexists f; iexact H

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start part Held
  rw [xs_eq, outs_eq, all_Free]
  iintro ⟨⟨#HR, ⟨Ht, Ha, Hla, Hst⟩, Hc, ⟨Hx, Hxr⟩, Ho⟩, -, ⟨%f, Hr⟩, ⟨%g, Hv⟩⟩
  ihave Hr := (Entails.of_eq (r_blocks c f)) $$ Hr
  ihave Hv := (v_open c g) $$ Hv
  isplitr; · iexact HR
  isplitl [Hxr]; · iexact Hxr
  isplitl [Hx]; · iexact Hx
  isplitl [Ho]; · iexact Ho
  isplitl [Hr]; · iexists f; iexact Hr
  isplitl [Hv Hst]; · isplitl [Hv] <;> iassumption
  isplitl [Hla]; · iexact Hla
  isplitl [Ht]; · iexact Ht
  isplitl [Hc]; · iexact Hc
  iexact Ha

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq, ownSems0_eq]
  unfold Φ₁ Left finish
  rw [xs_eq, outs_eq, all_Free, all_ckR (sv c), unscopedSems0_eq]
  iintro ⟨Hxr, Hx, Ho, Hr, ⟨Hv, Hst⟩, Hla, Hb, Hsv⟩
  ihave Hv := (v_join m c) $$ Hv
  ihave Hr := (Entails.of_eq (r_blocks c (R m c)).symm) $$ Hr
  isplitl [Hb Hx Hxr Ho]
  · isplitl [Hb]; · iexact Hb
    isplitl [Hx Hxr]
    · isplitl [Hx] <;> iassumption
    iexact Ho
  isplitl [Hsv Hla Hst]
  · isplitl [Hsv]; · iexact Hsv
    isplitl [Hla] <;> iassumption
  isplitl [Hr]
  · iexists (R m c); iexact Hr
  iexact Hv

theorem waits (c : Dev nD) : (levAts L lv : sProp 𝕄) ⊢ Pipeline.cellsWaits cfgs (dats m) () 0 c :=
  Pipeline.cellsWaits_intro cfgs (dats m) () 0 c fun w => w.elim0

/-- What the final memory says of device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_v1) = O m c

theorem finish_read (c : Dev nD) (s' : Phys nD τ sig (Elt F)) :
    iprop(finish m c ∗ emp ∗ SI s') ⊢ (|={Set.univ}=> iprop(⌜QY m c s'.mem⌝ ∗ SI s') : sProp 𝕄) := by
  unfold finish
  iintro ⟨⟨Hu, Hx, Ho⟩, -, HSI⟩
  ihave %hx := (SI_pointsTo_agree) $$ [HSI Hx]
  · isplitl [HSI] <;> iassumption
  ihave %ho := (SI_pointsTo_agree) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ i), funext fun i => ho i (Finset.mem_univ i)⟩
  iexact HSI

/-! ## The run -/

/-- What the launch starts from, opened. -/
theorem launch_open : (ownU u₀ : sProp 𝕄)
    ⊢ |={Set.univ}=> iprop(BI.own (EP (initOf (Pipeline.cells (nD := nD) (τ := τ) cfgs cellOf_inj) (Pipeline.launchToks (nD := nD) (τ := τ) cfgs cellOf_inj))) ∗ bigSep Finset.univ (G m)) := by
  unfold u₀
  iintro Hu
  ihave H := (ownU_pair _ _) $$ Hu
  icases H with ⟨HP, HX⟩
  ihave HX := (show BI.own (embR (A := UR sig nD τ) (B := UB × Counters) (initOf theCells theToks, 1)) ⊢ (iprop(BI.own (ER (initOf theCells theToks)) ∗ _) : sProp 𝕄)
    from own_pair_emb (embR (A := UR sig nD τ) (B := UB × Counters)) (initOf theCells theToks) (1 : Counters)) $$ HX
  icases HX with ⟨HX, -⟩
  imod (fund_cells m) $$ HX with HG
  imodintro
  isplitl [HP] <;> iassumption

/-- From any memory with zero counters, whatever the float values: every weakly fair run of the eight devices ends, and
    then every device's input is as at launch, its result is `O`, and every semaphore is at zero. -/
theorem run_main : θ_run defs (onTc (τ := τ) (main (F := F))) ⟨m, fun _ => 0, ρ⟩ (fun r =>
    (∀ c : Dev nD, r.2.mem ((c : Thread nD τ).loc main_v1) = O m c ∧ r.2.mem ((c : Thread nD τ).loc main_arg0) = X m c) ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (fun _ => rfl) ?_ (fun w => w.elim0) arr_whole0 stage_whole0 (fun _ w => w.elim0) winFacts0.arr_inj
    O₀ (fun _ => rfl) (fun _ => rfl) L lv L_of_ne (waits m) (G m) (G' m) u₀ ?_ ?_ ?_ ?_ (start m) (finish m) (fun _ => iprop(emp)) ?_ ?_ ?_ (QY m) ?_ ?_
  · exact fun c => (body_obligation m c).loose
  · exact launch_open m
  · exact glob m
  · exact fun _ w => w.elim0
  · exact fun _ k => k.elim0
  · exact start_intro m ρ
  · exact phi0_intro m
  · exact phi1_exit m
  · exact finish_read m
  · exact fun _ h hs => ⟨fun c => ⟨(h c).2.2.2.2, (h c).2.2.2.1⟩, sem_eq_zero hs fun c => (h c).2.2.1⟩

end Cert.KernelIdeal.Body

end
-- ==== Proof.Value.lean ====
/- The kernel's result, over exact sums, is the reference's: each element is the sum of the two planes' elements. -/
module

public import proofs.«01_k».proof.Proof.Run
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

set_option maxRecDepth 16384

noncomputable section

namespace Cert.KernelIdeal.Body

open Cert.KernelIdeal.Gen
open Idealize.ShloMosaic Idealize.ShloMosaic.TcCoe
open Idealize.SL.Sem

section Read

variable {F : FTy → Type} [FloatOps F]
variable (m : (ℓ : Loc nD τ sig) → Buf (Elt F) ℓ)

omit [FloatOps F] in
/-- A block of the input at a row and a column is the input at the block's row and the half's column. -/
theorem xBlock_at (c : Dev nD) (b : Fin 128) (h : Fin 2) (x : S128x1024.Idx) (r : Fin 16384) (k : Fin 2048)
    (hr : r.val = 128 * b.val + (x 0).val) (hk : k.val = 1024 * h.val + (x 1).val) :
    xBlock m c b h x = X m c (ValueIdx.ix3 (0 : Fin 1) r k : S1x16384x2048.Idx) := by
  obtain ⟨y, hy⟩ : ∃ y : S1x16384x2048.Idx, (xV b h).view.emb x = y := ⟨_, rfl⟩
  have e : (Shape.reshapeEquiv (squeezes_S1x128x1024_S128x1024).numel_eq x : S1x128x1024.Idx)
      = ValueIdx.ix3 (0 : Fin 1) (x 0) (x 1) :=
    (congrArg _ (ValueIdx.eq_ix2 x)).trans (ValueIdx.reshapeEquiv_ix2_1ab _ _ _)
  have e1 : (y 1).val = 128 * b.val + 1 * ((Shape.reshapeEquiv (squeezes_S1x128x1024_S128x1024).numel_eq x : S1x128x1024.Idx) 1).val := by
    rw [← hy]; rfl
  have e2 : (y 2).val = 1024 * h.val + 1 * ((Shape.reshapeEquiv (squeezes_S1x128x1024_S128x1024).numel_eq x : S1x128x1024.Idx) 2).val := by
    rw [← hy]; rfl
  rw [e] at e1 e2
  have e1' : (y 1).val = 128 * b.val + 1 * (x 0).val := e1
  have e2' : (y 2).val = 1024 * h.val + 1 * (x 1).val := e2
  have hy' : y = (ValueIdx.ix3 (0 : Fin 1) r k : S1x16384x2048.Idx) := by
    refine (funext fun a => Fin.ext ?_)
    match a with
    | ⟨0, _⟩ => show (y 0).val = 0; have h0 : (y 0).val < 1 := (y 0).isLt; omega
    | ⟨1, _⟩ => show (y 1).val = r.val; omega
    | ⟨2, _⟩ => show (y 2).val = k.val; omega
  show X m c ((xV b h).view.emb x) = _
  rw [hy, hy']

/-- The kernel's result at an index: the input of the device that adds the block plus its x-neighbour's, at the same
    row and in the column of device `c`'s half. -/
theorem O_at (c : Dev nD) (y : S16384x1024.Idx) (k : Fin 2048) (hk : k.val = 1024 * (mine c).val + (y 1).val) :
    O m c y = FloatOps.addf (X m (srcDev c (oBlk y)) (ValueIdx.ix3 (0 : Fin 1) (y 0) k : S1x16384x2048.Idx))
      (X m (xp (srcDev c (oBlk y))) (ValueIdx.ix3 (0 : Fin 1) (y 0) k : S1x16384x2048.Idx)) := by
  have hr : (y 0).val = 128 * (oBlk y).val + (oIn y 0).val := by
    show (y 0).val = 128 * ((y 0).val / 128) + (y 0).val % 128; omega
  have hk' : k.val = 1024 * (mine (srcDev c (oBlk y))).val + (oIn y 1).val := by rw [mine_srcDev]; exact hk
  show FloatOps.addf (xBlock m _ _ _ (oIn y)) (xBlock m _ _ _ (oIn y)) = _
  rw [xBlock_at m _ _ _ (oIn y) (y 0) k hr hk', xBlock_at m _ _ _ (oIn y) (y 0) k hr hk']

end Read

/-- The two devices that add a block hold the two planes: an exact sum of one and the other is the sum of the planes,
    in whichever order. -/
theorem add_planes (f : Fin 2 → EReal) (d : Dev nD) : f (mine d) + f (mine (xp d)) = f 0 + f 1 := by
  rw [mine_xp]
  have h : mine d = 0 ∧ oth d = 1 ∨ mine d = 1 ∧ oth d = 0 := by revert d; decide
  rcases h with ⟨h, h'⟩ | ⟨h, h'⟩ <;> rw [h, h']
  exact add_comm _ _

/-- The reference's result: the sum over the first axis, from zero. -/
def refSum (A : FVec Ideal Cert.ReferenceIdeal.S2x16384x2048 .f32) : FVec Ideal Cert.ReferenceIdeal.S16384x2048 .f32 :=
  Host.reduceAdd A (constant Cert.ReferenceIdeal.S_ .f32 0x00000000#32)
    Cert.ReferenceIdeal.Gen.reducesTo_S2x16384x2048_S16384x2048_d0 Cert.ReferenceIdeal.Gen.h_S_

/-- It is at each index the sum of the two planes' elements. -/
theorem refSum_at (A : FVec Ideal Cert.ReferenceIdeal.S2x16384x2048 .f32) (r : Fin 16384) (k : Fin 2048) :
    refSum A (ValueIdx.ix2 r k) = (A (ValueIdx.ix3 (0 : Fin 2) r k) + A (ValueIdx.ix3 (1 : Fin 2) r k) : EReal) := by
  refine (Ideal.hostReduceAdd_r3_a0 Cert.ReferenceIdeal.Gen.reducesTo_S2x16384x2048_S16384x2048_d0 A
    (Ideal.ofBits .f32 0x00000000#32) (ValueIdx.ix2 r k)).trans ?_
  rw [Ideal.ofBits_zero_f32, zero_add, Fin.sum_univ_two]
  rfl

/-- From inputs that are the planes of `A`, device `c`'s result is its half of the columns of `A`'s sum. -/
theorem O_eq (m : (ℓ : Loc nD τ sig) → Buf (Elt Ideal) ℓ) (A : FVec Ideal Cert.ReferenceIdeal.S2x16384x2048 .f32)
    (hA : ∀ c : Dev nD, X m c = Layout.blockN ⟨3, ![1, 16384, 2048]⟩ ⟨3, ![2, 16384, 2048]⟩ (Layout.meshBlock [2, 2, 2] ![[0], [], []] c) A)
    (c : Dev nD) :
    O m c = Layout.blockN ⟨2, ![16384, 1024]⟩ ⟨2, ![16384, 2048]⟩ (Layout.meshBlock [2, 2, 2] ![[], [0]] c) (refSum A) := by
  have hX : ∀ (d : Dev nD) (r : Fin 16384) (k : Fin 2048),
      X m d (ValueIdx.ix3 (0 : Fin 1) r k : S1x16384x2048.Idx) = A (ValueIdx.ix3 (mine d) r k) := by
    intro d r k
    rw [hA d, Layout.blockN_apply]
    refine congrArg A (funext fun a => Fin.ext ?_)
    rw [Layout.TilesN.idx_val]
    have hd : d.val < 8 := d.isLt
    match a with
    | ⟨0, _⟩ => show ((d.val / 4) % 2 * 1 + 0) * 1 + 0 = d.val / 4; omega
    | ⟨1, _⟩ => show 0 * 16384 + r.val = r.val; omega
    | ⟨2, _⟩ => show 0 * 2048 + k.val = k.val; omega
  refine funext fun y : S16384x1024.Idx => ?_
  have hc : c.val < 8 := c.isLt
  have h1 : (y 1).val < 1024 := (y 1).isLt
  let k : Fin 2048 := ⟨1024 * (mine c).val + (y 1).val, by show 1024 * (c.val / 4) + _ < 2048; omega⟩
  refine (O_at m c y k rfl).trans ((congrArg₂ FloatOps.addf (hX _ (y 0) k) (hX _ (y 0) k)).trans ?_)
  refine (add_planes (fun p => A (ValueIdx.ix3 p (y 0) k)) _).trans ((refSum_at A (y 0) k).symm.trans ?_)
  rw [Layout.blockN_apply]
  refine congrArg (refSum A) (funext fun a => Fin.ext ?_)
  rw [Layout.TilesN.idx_val]
  match a with
  | ⟨0, _⟩ => show (y 0).val = 0 * 16384 + (y 0).val; omega
  | ⟨1, _⟩ => show 1024 * (c.val / 4) + (y 1).val = ((c.val / 4) % 2 * 1 + 0) * 1024 + (y 1).val; omega

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at bit patterns terminates, leaves its input as it was and every counter at zero. -/
theorem frame_kernel : Cert.quiescent_Kernel := fun m g _ =>
  (θ_run Cert.KernelIdeal.defs _ _).mono (fun _ h => ⟨fun c => (h.1 c).2, h.2⟩)
    (Cert.KernelIdeal.Body.run_main (F := Bits) m g)

/-- So it does over exact values. -/
theorem frame_ideal : Cert.quiescent_KernelIdeal := fun m g _ =>
  (θ_run Cert.KernelIdeal.defs _ _).mono (fun _ h => ⟨fun c => (h.1 c).2, h.2⟩)
    (Cert.KernelIdeal.Body.run_main (F := Ideal) m g)

/-- The reference has no counters; it terminates and leaves its input as it was. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over exact values every device's result is its half of the columns of the reference's sum. -/
theorem value : Cert.algebraic_KernelIdeal_ReferenceIdeal := fun m g m' g' _ hin =>
  ⟨Cert.KernelIdeal.Body.refSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.KernelIdeal.Body.O_eq m _ hin c), (h.1 c).2⟩)
      (Cert.KernelIdeal.Body.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
